-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_skip [hPre_finite_skip : Cert.Pre_finite_skip.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_skip.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_skip [hPre_finite_skip : Cert.Pre_finite_skip.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_skip.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_skip [hKernel4Ideal : Cert.Kernel4Ideal.Facts] [hPre_finite_skip : Cert.Pre_finite_skip.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_skip m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_skip [hReference4Ideal : Cert.Reference4Ideal.Facts] [hPre_finite_skip : Cert.Pre_finite_skip.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_skip m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_skip [hKernel4Ideal : Cert.Kernel4Ideal.Facts] [hReference4Ideal : Cert.Reference4Ideal.Facts] [hPre_finite_skip : Cert.Pre_finite_skip.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_skip m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_skip : Cert.Pre_finite_skip.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_skip (hKernel4Ideal := hKernel4Ideal) (hPre_finite_skip := hPre_finite_skip)
    ∧ quiescent_Reference4Ideal (hReference4Ideal := hReference4Ideal)
    ∧ quiescent_Reference4Ideal_pre_finite_skip (hReference4Ideal := hReference4Ideal) (hPre_finite_skip := hPre_finite_skip)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_skip (hKernel4Ideal := hKernel4Ideal) (hReference4Ideal := hReference4Ideal) (hPre_finite_skip := hPre_finite_skip)
-- ==== Pre_finite_scores.lean ====
abbrev S16896x2048 : Shape := ⟨2, ![16896, 2048]⟩
abbrev S16896x1024 : Shape := ⟨2, ![16896, 1024]⟩
abbrev S16384x2048 : Shape := ⟨2, ![16384, 2048]⟩
abbrev S_ : Shape := ⟨0, ![]⟩

class Facts : Prop where
  slices_S16896x2048_S16384x2048_0_0 : S16896x2048.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16896x2048 : S_.BroadcastsInDim S16896x2048 (![] : Fin 0 → Fin S16896x2048.rank)
  reducesTo_S16896x2048_S_d0_1 : S16896x2048.ReducesTo [0, 1] S_

variable [Facts]

def fn {F : FTy → Type} [FloatOps F] (main_arg0 : FVec F S16896x2048 .bf16) (main_arg1 : FVec F S16896x2048 .bf16) (main_arg2 : FVec F S16896x1024 .bf16) : IVec S_ 1 :=
  let main_v0 : FVec F S16384x2048 .bf16 := (extractStridedSlice S16384x2048 ![0, 0] · slices_S16896x2048_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S16896x2048 .f32 := (extf .f32 · bitsLt_bf16_f32) main_arg1
  let main_v7 : FVec F S16896x2048 .f32 := Host.absf main_v6
  let main_cst_0 : FVec F S_ .f32 := constant S_ .f32 0x7F800000#32
  let main_v8 : FVec F S16896x2048 .f32 := broadcastInDim S16896x2048 ![] bcast_S_S16896x2048 main_cst_0
  let main_v9 : IVec S16896x2048 1 := cmpf .olt main_v7 main_v8
  let main_c_1 : IVec S_ 1 := constantI S_ 1 1#1
  let main_v10 : IVec S_ 1 := (fun x v => Host.reduce IntOp.andi x v reducesTo_S16896x2048_S_d0_1 h_S_) main_v9 main_c_1
  let main_v11 : IVec S_ 1 := andi main_v5 main_v10
  main_v11
-- ==== Pre_finite_skip.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩
abbrev S3x1x6144 : Shape := ⟨3, ![3, 1, 6144]⟩
abbrev S16896x1024 : Shape := ⟨2, ![16896, 1024]⟩
abbrev S16896x2048 : Shape := ⟨2, ![16896, 2048]⟩
abbrev S2x16 : Shape := ⟨2, ![2, 16]⟩
abbrev S1024 : Shape := ⟨1, ![1024]⟩
abbrev S1536x1024 : Shape := ⟨2, ![1536, 1024]⟩
abbrev S_ : Shape := ⟨0, ![]⟩

class Facts : Prop where
  slices_S16896x2048_S16896x1024_0_0 : S16896x2048.Slices ![0, 0] S16896x1024
  bcast_S_S16896x1024 : S_.BroadcastsInDim S16896x1024 (![] : Fin 0 → Fin S16896x1024.rank)
  reducesTo_S16896x1024_S_d0_1 : S16896x1024.ReducesTo [0, 1] S_
  h_S_ : 0 < S_.numel

variable [Facts]

def fn {F : FTy → Type} [FloatOps F] (main_arg0 : FVec F S16384x1024 .f32) (main_arg1 : FVec F S512x1024 .f32) (main_arg2 : FVec F S16384x512 .f32) (main_arg3 : FVec F S512x512 .f32) (main_arg4 : FVec F S3x1x6144 .f32) (main_arg5 : FVec F S16896x1024 .f32) (main_arg6 : FVec F S16896x1024 .f32) (main_arg7 : FVec F S16896x2048 .f32) (main_arg8 : FVec F S16896x1024 .f32) (main_arg9 : FVec F S2x16 .f32) (main_arg10 : FVec F S1024 .f32) (main_arg11 : FVec F S1536x1024 .f32) : IVec S_ 1 :=
  let main_v0 : FVec F S16896x1024 .f32 := (extractStridedSlice S16896x1024 ![0, 0] · slices_S16896x2048_S16896x1024_0_0) main_arg7
  let main_v1 : FVec F S16896x1024 .f32 := Host.absf main_v0
  let main_cst : FVec F S_ .f32 := constant S_ .f32 0x7F800000#32
  let main_v2 : FVec F S16896x1024 .f32 := broadcastInDim S16896x1024 ![] bcast_S_S16896x1024 main_cst
  let main_v3 : IVec S16896x1024 1 := cmpf .olt main_v1 main_v2
  let main_c : IVec S_ 1 := constantI S_ 1 1#1
  let main_v4 : IVec S_ 1 := (fun x v => Host.reduce IntOp.andi x v reducesTo_S16896x1024_S_d0_1 h_S_) main_v3 main_c
  main_v4
-- ==== Kernel.lean ====
abbrev S16896x2048 : Shape := ⟨2, ![16896, 2048]⟩
abbrev S16896x1024 : Shape := ⟨2, ![16896, 1024]⟩
abbrev S16384x1024 : Shape := ⟨2, ![16384, 1024]⟩
abbrev S1024x256 : Shape := ⟨2, ![1024, 256]⟩
abbrev S256x256 : Shape := ⟨2, ![256, 256]⟩
abbrev S8192x256 : Shape := ⟨2, ![8192, 256]⟩
abbrev S256x128 : Shape := ⟨2, ![256, 128]⟩
abbrev S8192x128 : Shape := ⟨2, ![8192, 128]⟩
abbrev S1024x128 : Shape := ⟨2, ![1024, 128]⟩
abbrev S2x8x128 : Shape := ⟨3, ![2, 8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S8x128 : Shape := ⟨2, ![8, 128]⟩
abbrev S1x8x128 : Shape := ⟨3, ![1, 8, 128]⟩
abbrev S1024 : Shape := ⟨1, ![1024]⟩
abbrev S1024x1 : Shape := ⟨2, ![1024, 1]⟩
abbrev S1x1x1 : Shape := ⟨3, ![1, 1, 1]⟩
abbrev S1x1024x1 : Shape := ⟨3, ![1, 1024, 1]⟩
abbrev S1024x512 : Shape := ⟨2, ![1024, 512]⟩

abbrev nBuf : Space → Nat
  | .hbm => 4
  | .vmem => 13
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x1024, .bf16⟩
  | .hbm, ⟨3, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S8192x256, .bf16⟩
  | .local _ .vmem, ⟨5, _⟩ => ⟨S8192x256, .bf16⟩
  | .local _ .vmem, ⟨6, _⟩ => ⟨S256x128, .bf16⟩
  | .local _ .vmem, ⟨7, _⟩ => ⟨S256x128, .bf16⟩
  | .local _ .vmem, ⟨8, _⟩ => ⟨S8192x128, .bf16⟩
  | .local _ .vmem, ⟨9, _⟩ => ⟨S8192x128, .bf16⟩
  | .local _ .vmem, ⟨10, _⟩ => ⟨S1024x128, .bf16⟩
  | .local _ .vmem, ⟨11, _⟩ => ⟨S1024x128, .bf16⟩
  | .local _ .vmem, ⟨12, _⟩ => ⟨S2x8x128, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_2 : BitVec 32 := 0#32
  let v4 : BitVec 1 := Scalar.cmpi .ne v3 c0_i32_2
  v4

@[reducible] def k0_t1_loop : Scf.Loop 32 :=
  let c0_i32_20 : BitVec 32 := 0#32
  let c16_i32 : BitVec 32 := 16#32
  let v47 : BitVec 32 := Scalar.addi c0_i32_20 c16_i32
  let c1_i32 : BitVec 32 := 1#32
  ⟨c0_i32_20, v47, c1_i32⟩
def k0_mult1 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c512_i32 : BitVec 32 := 512#32
  let v71 : BitVec 32 := Scalar.muli arg10 c512_i32
  v71
def k0_off1 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c512_i32 : BitVec 32 := 512#32
  let v71 : BitVec 32 := Scalar.muli arg10 c512_i32
  let v72 : BitVec 32 := v71
  let v73 : Index := Scalar.indexCast v72
  let c0_36 : Index := 0#32
  ![v73.toNat, 0]
@[reducible] def k0_t2_loop : Scf.Loop 32 :=
  let c0_i32_29 : BitVec 32 := 0#32
  let c16_i32_30 : BitVec 32 := 16#32
  let v63 : BitVec 32 := Scalar.addi c0_i32_29 c16_i32_30
  let c1_i32_31 : BitVec 32 := 1#32
  ⟨c0_i32_29, v63, c1_i32_31⟩
def k0_mult2 (k0_t2 : Fin k0_t2_loop.trips) : BitVec 32 :=
  let c0_i32_29 : BitVec 32 := 0#32
  let c1_i32_31 : BitVec 32 := 1#32
  let arg10 : BitVec 32 := Scf.iv c0_i32_29 c1_i32_31 k0_t2
  let c512_i32 : BitVec 32 := 512#32
  let v71 : BitVec 32 := Scalar.muli arg10 c512_i32
  v71
def k0_off2 (k0_t2 : Fin k0_t2_loop.trips) : Fin 2 → Nat :=
  let c0_i32_29 : BitVec 32 := 0#32
  let c1_i32_31 : BitVec 32 := 1#32
  let arg10 : BitVec 32 := Scf.iv c0_i32_29 c1_i32_31 k0_t2
  let c512_i32 : BitVec 32 := 512#32
  let v71 : BitVec 32 := Scalar.muli arg10 c512_i32
  let v72 : BitVec 32 := v71
  let v73 : Index := Scalar.indexCast v72
  let c0_36 : Index := 0#32
  ![v73.toNat, 0]
def k0_mult3 : BitVec 32 :=
  let c0_i32_28 : BitVec 32 := 0#32
  let c512_i32 : BitVec 32 := 512#32
  let v68 : BitVec 32 := Scalar.muli c0_i32_28 c512_i32
  v68
def k0_off3 (c0_i32_28 : BitVec 32) : Fin 2 → Nat :=
  let c512_i32 : BitVec 32 := 512#32
  let v68 : BitVec 32 := Scalar.muli c0_i32_28 c512_i32
  let v69 : BitVec 32 := v68
  let v70 : Index := Scalar.indexCast v69
  let c0_29 : Index := 0#32
  ![v70.toNat, 0]
def k0_off4 (c0_i32_28 : BitVec 32) : Fin 2 → Nat :=
  let c512_i32 : BitVec 32 := 512#32
  let v68 : BitVec 32 := Scalar.muli c0_i32_28 c512_i32
  let v69 : BitVec 32 := v68
  let v72 : Index := Scalar.indexCast v69
  let c0_30 : Index := 0#32
  ![v72.toNat, 0]
def k0_mult4 : BitVec 32 :=
  let c1_i32 : BitVec 32 := 1#32
  let c512_i32_39 : BitVec 32 := 512#32
  let v100 : BitVec 32 := Scalar.muli c1_i32 c512_i32_39
  v100
def k0_mult5 : BitVec 32 :=
  let c2_i32 : BitVec 32 := 2#32
  let c512_i32_50 : BitVec 32 := 512#32
  let v132 : BitVec 32 := Scalar.muli c2_i32 c512_i32_50
  v132
def k0_mult6 : BitVec 32 :=
  let c3_i32 : BitVec 32 := 3#32
  let c512_i32_61 : BitVec 32 := 512#32
  let v164 : BitVec 32 := Scalar.muli c3_i32 c512_i32_61
  v164
def k0_mult7 : BitVec 32 :=
  let c4_i32 : BitVec 32 := 4#32
  let c512_i32_72 : BitVec 32 := 512#32
  let v196 : BitVec 32 := Scalar.muli c4_i32 c512_i32_72
  v196
def k0_mult8 : BitVec 32 :=
  let c5_i32 : BitVec 32 := 5#32
  let c512_i32_83 : BitVec 32 := 512#32
  let v228 : BitVec 32 := Scalar.muli c5_i32 c512_i32_83
  v228
def k0_mult9 : BitVec 32 :=
  let c6_i32 : BitVec 32 := 6#32
  let c512_i32_94 : BitVec 32 := 512#32
  let v260 : BitVec 32 := Scalar.muli c6_i32 c512_i32_94
  v260
def k0_mult10 : BitVec 32 :=
  let c7_i32 : BitVec 32 := 7#32
  let c512_i32_105 : BitVec 32 := 512#32
  let v292 : BitVec 32 := Scalar.muli c7_i32 c512_i32_105
  v292
def k0_mult11 : BitVec 32 :=
  let c8_i32 : BitVec 32 := 8#32
  let c512_i32_116 : BitVec 32 := 512#32
  let v324 : BitVec 32 := Scalar.muli c8_i32 c512_i32_116
  v324
def k0_mult12 : BitVec 32 :=
  let c9_i32 : BitVec 32 := 9#32
  let c512_i32_127 : BitVec 32 := 512#32
  let v356 : BitVec 32 := Scalar.muli c9_i32 c512_i32_127
  v356
def k0_mult13 : BitVec 32 :=
  let c10_i32 : BitVec 32 := 10#32
  let c512_i32_138 : BitVec 32 := 512#32
  let v388 : BitVec 32 := Scalar.muli c10_i32 c512_i32_138
  v388
def k0_mult14 : BitVec 32 :=
  let c11_i32 : BitVec 32 := 11#32
  let c512_i32_149 : BitVec 32 := 512#32
  let v420 : BitVec 32 := Scalar.muli c11_i32 c512_i32_149
  v420
def k0_mult15 : BitVec 32 :=
  let c12_i32 : BitVec 32 := 12#32
  let c512_i32_160 : BitVec 32 := 512#32
  let v452 : BitVec 32 := Scalar.muli c12_i32 c512_i32_160
  v452
def k0_mult16 : BitVec 32 :=
  let c13_i32 : BitVec 32 := 13#32
  let c512_i32_171 : BitVec 32 := 512#32
  let v484 : BitVec 32 := Scalar.muli c13_i32 c512_i32_171
  v484
def k0_mult17 : BitVec 32 :=
  let c14_i32 : BitVec 32 := 14#32
  let c512_i32_182 : BitVec 32 := 512#32
  let v516 : BitVec 32 := Scalar.muli c14_i32 c512_i32_182
  v516
def k0_mult18 : BitVec 32 :=
  let c15_i32 : BitVec 32 := 15#32
  let c512_i32_193 : BitVec 32 := 512#32
  let v548 : BitVec 32 := Scalar.muli c15_i32 c512_i32_193
  v548
@[reducible] def k0_t3_loop : Scf.Loop 32 :=
  let c0_i32_33 : BitVec 32 := 0#32
  let c16_i32 : BitVec 32 := 16#32
  let v85 : BitVec 32 := Scalar.addi c0_i32_33 c16_i32
  let c1_i32 : BitVec 32 := 1#32
  ⟨c0_i32_33, v85, c1_i32⟩
def k0_mult19 (k0_t3 : Fin k0_t3_loop.trips) : BitVec 32 :=
  let c0_i32_33 : BitVec 32 := 0#32
  let c1_i32 : BitVec 32 := 1#32
  let arg10 : BitVec 32 := Scf.iv c0_i32_33 c1_i32 k0_t3
  let c512_i32 : BitVec 32 := 512#32
  let v97 : BitVec 32 := Scalar.muli arg10 c512_i32
  v97
def k0_off5 (k0_t3 : Fin k0_t3_loop.trips) : Fin 2 → Nat :=
  let c0_i32_33 : BitVec 32 := 0#32
  let c1_i32 : BitVec 32 := 1#32
  let arg10 : BitVec 32 := Scf.iv c0_i32_33 c1_i32 k0_t3
  let c512_i32 : BitVec 32 := 512#32
  let v97 : BitVec 32 := Scalar.muli arg10 c512_i32
  let v98 : BitVec 32 := v97
  let v99 : Index := Scalar.indexCast v98
  let c0_40 : Index := 0#32
  ![v99.toNat, 0]
def k0_off6 (k0_t3 : Fin k0_t3_loop.trips) : Fin 2 → Nat :=
  let c0_i32_33 : BitVec 32 := 0#32
  let c1_i32 : BitVec 32 := 1#32
  let arg10 : BitVec 32 := Scf.iv c0_i32_33 c1_i32 k0_t3
  let c512_i32 : BitVec 32 := 512#32
  let v97 : BitVec 32 := Scalar.muli arg10 c512_i32
  let v98 : BitVec 32 := v97
  let v101 : Index := Scalar.indexCast v98
  let c0_41 : Index := 0#32
  ![v101.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16896x2048 : Shape := ⟨2, ![16896, 2048]⟩
abbrev S16896x1024 : Shape := ⟨2, ![16896, 1024]⟩
abbrev S16384x2048 : Shape := ⟨2, ![16384, 2048]⟩
abbrev S2x8192x16x128 : Shape := ⟨4, ![2, 8192, 16, 128]⟩
abbrev S512x2048 : Shape := ⟨2, ![512, 2048]⟩
abbrev S2x256x16x128 : Shape := ⟨4, ![2, 256, 16, 128]⟩
abbrev S2x8448x16x128 : Shape := ⟨4, ![2, 8448, 16, 128]⟩
abbrev S2x16x8192x8448 : Shape := ⟨4, ![2, 16, 8192, 8448]⟩
abbrev S_ : Shape := ⟨0, ![]⟩
abbrev S2x16x8192 : Shape := ⟨3, ![2, 16, 8192]⟩
abbrev S2x16x8192x1 : Shape := ⟨4, ![2, 16, 8192, 1]⟩
abbrev S16384x1024 : Shape := ⟨2, ![16384, 1024]⟩
abbrev S2x8192x16x64 : Shape := ⟨4, ![2, 8192, 16, 64]⟩
abbrev S512x1024 : Shape := ⟨2, ![512, 1024]⟩
abbrev S2x256x16x64 : Shape := ⟨4, ![2, 256, 16, 64]⟩
abbrev S2x8448x16x64 : Shape := ⟨4, ![2, 8448, 16, 64]⟩
abbrev S2x16x64x8192 : Shape := ⟨4, ![2, 16, 64, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S16896x1024, .bf16⟩
  | .hbm, ⟨3, _⟩ => ⟨S16384x2048, .bf16⟩
  | .hbm, ⟨4, _⟩ => ⟨S2x8192x16x128, .bf16⟩
  | .hbm, ⟨5, _⟩ => ⟨S16384x2048, .bf16⟩
  | .hbm, ⟨6, _⟩ => ⟨S2x8192x16x128, .bf16⟩
  | .hbm, ⟨7, _⟩ => ⟨S512x2048, .bf16⟩
  | .hbm, ⟨8, _⟩ => ⟨S2x256x16x128, .bf16⟩
  | .hbm, ⟨9, _⟩ => ⟨S2x8448x16x128, .bf16⟩
  | .hbm, ⟨10, _⟩ => ⟨S2x16x8192x8448, .f32⟩
  | .hbm, ⟨11, _⟩ => ⟨S2x16x8192x8448, .bf16⟩
  | .hbm, ⟨12, _⟩ => ⟨S2x16x8192x8448, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16x8192x8448, .f32⟩
  | .hbm, ⟨17, _⟩ => ⟨S2x16x8192x8448, .f32⟩
  | .hbm, ⟨18, _⟩ => ⟨S_, .f32⟩
  | .hbm, ⟨19, _⟩ => ⟨S2x16x8192, .f32⟩
  | .hbm, ⟨20, _⟩ => ⟨S_, .f32⟩
  | .hbm, ⟨21, _⟩ => ⟨S2x16x8192, .f32⟩
  | .hbm, ⟨22, _⟩ => ⟨S2x16x8192, .f32⟩
  | .hbm, ⟨23, _⟩ => ⟨S2x16x8192x1, .f32⟩
  | .hbm, ⟨24, _⟩ => ⟨S2x16x8192x8448, .f32⟩
  | .hbm, ⟨25, _⟩ => ⟨S2x16x8192x8448, .f32⟩
  | .hbm, ⟨26, _⟩ => ⟨S2x16x8192x8448, .f32⟩
  | .hbm, ⟨27, _⟩ => ⟨S_, .f32⟩
  | .hbm, ⟨28, _⟩ => ⟨S2x16x8192, .f32⟩
  | .hbm, ⟨29, _⟩ => ⟨S2x16x8192x1, .f32⟩
  | .hbm, ⟨30, _⟩ => ⟨S2x16x8192x8448, .f32⟩
  | .hbm, ⟨31, _⟩ => ⟨S2x16x8192x8448, .f32⟩
  | .hbm, ⟨32, _⟩ => ⟨S2x16x8192x8448, .bf16⟩
  | .hbm, ⟨33, _⟩ => ⟨S16384x1024, .bf16⟩
  | .hbm, ⟨34, _⟩ => ⟨S2x8192x16x64, .bf16⟩
  | .hbm, ⟨35, _⟩ => ⟨S512x1024, .bf16⟩
  | .hbm, ⟨36, _⟩ => ⟨S2x256x16x64, .bf16⟩
  | .hbm, ⟨37, _⟩ => ⟨S2x8448x16x64, .bf16⟩
  | .hbm, ⟨38, _⟩ => ⟨S2x16x64x8192, .f32⟩
  | .hbm, ⟨39, _⟩ => ⟨S2x8192x16x64, .f32⟩
  | .hbm, ⟨40, _⟩ => ⟨S2x8192x16x64, .bf16⟩
  | .hbm, ⟨41, _⟩ => ⟨S16384x1024, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S512x1024 : Shape := ⟨2, ![512, 1024]⟩
abbrev S3x1x6144 : Shape := ⟨3, ![3, 1, 6144]⟩
abbrev S1024 : Shape := ⟨1, ![1024]⟩
abbrev S1024x3616 : Shape := ⟨2, ![1024, 3616]⟩
abbrev S1024x512 : Shape := ⟨2, ![1024, 512]⟩
abbrev S1024x1024 : Shape := ⟨2, ![1024, 1024]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S16896x512 : Shape := ⟨2, ![16896, 512]⟩
abbrev S16896x1024 : Shape := ⟨2, ![16896, 1024]⟩
abbrev S16896x2048 : Shape := ⟨2, ![16896, 2048]⟩
abbrev S16896x128 : Shape := ⟨2, ![16896, 128]⟩
abbrev S1x1x6144 : Shape := ⟨3, ![1, 1, 6144]⟩
abbrev S512x512 : Shape := ⟨2, ![512, 512]⟩
abbrev S512x2048 : Shape := ⟨2, ![512, 2048]⟩
abbrev S512x128 : Shape := ⟨2, ![512, 128]⟩
abbrev S1x6144 : Shape := ⟨2, ![1, 6144]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S3x1x6144, .f32⟩
  | .hbm, ⟨3, _⟩ => ⟨S1024, .f32⟩
  | .hbm, ⟨4, _⟩ => ⟨S1024x3616, .f32⟩
  | .hbm, ⟨5, _⟩ => ⟨S1024x512, .f32⟩
  | .hbm, ⟨6, _⟩ => ⟨S1024x512, .bf16⟩
  | .hbm, ⟨7, _⟩ => ⟨S1024x1024, .f32⟩
  | .hbm, ⟨8, _⟩ => ⟨S1024x1024, .bf16⟩
  | .hbm, ⟨9, _⟩ => ⟨S1024x2048, .f32⟩
  | .hbm, ⟨10, _⟩ => ⟨S1024x2048, .bf16⟩
  | .hbm, ⟨11, _⟩ => ⟨S1024x32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1x1024, .f32⟩
  | .hbm, ⟨17, _⟩ => ⟨S16896x512, .f32⟩
  | .hbm, ⟨18, _⟩ => ⟨S16896x1024, .f32⟩
  | .hbm, ⟨19, _⟩ => ⟨S16896x2048, .f32⟩
  | .hbm, ⟨20, _⟩ => ⟨S16896x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1x6144, .f32⟩
  | .local _ .vmem, ⟨4, _⟩ => ⟨S1x1x6144, .f32⟩
  | .local _ .vmem, ⟨5, _⟩ => ⟨S1x1024, .f32⟩
  | .local _ .vmem, ⟨6, _⟩ => ⟨S1024x512, .bf16⟩
  | .local _ .vmem, ⟨7, _⟩ => ⟨S1024x1024, .bf16⟩
  | .local _ .vmem, ⟨8, _⟩ => ⟨S1024x2048, .bf16⟩
  | .local _ .vmem, ⟨9, _⟩ => ⟨S1024x128, .bf16⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x2048, .f32⟩
  | .local _ .vmem, ⟨15, _⟩ => ⟨S512x2048, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S512x1024 : Shape := ⟨2, ![512, 1024]⟩
abbrev S3x1x6144 : Shape := ⟨3, ![3, 1, 6144]⟩
abbrev S1024 : Shape := ⟨1, ![1024]⟩
abbrev S1024x3616 : Shape := ⟨2, ![1024, 3616]⟩
abbrev S3x1x1024 : Shape := ⟨3, ![3, 1, 1024]⟩
abbrev S2x8192x1024 : Shape := ⟨3, ![2, 8192, 1024]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x256 : Shape := ⟨2, ![2, 256]⟩
abbrev S2x256x1 : Shape := ⟨3, ![2, 256, 1]⟩
abbrev S1x1024 : Shape := ⟨2, ![1, 1024]⟩
abbrev S16896x1024 : Shape := ⟨2, ![16896, 1024]⟩
abbrev S16896x3616 : Shape := ⟨2, ![16896, 3616]⟩
abbrev S16896x512 : Shape := ⟨2, ![16896, 512]⟩
abbrev S16896x2048 : Shape := ⟨2, ![16896, 2048]⟩
abbrev S16896x32 : Shape := ⟨2, ![16896, 32]⟩
abbrev S16896x128 : Shape := ⟨2, ![16896, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S3x1x6144, .f32⟩
  | .hbm, ⟨3, _⟩ => ⟨S1024, .f32⟩
  | .hbm, ⟨4, _⟩ => ⟨S1024x3616, .f32⟩
  | .hbm, ⟨5, _⟩ => ⟨S3x1x1024, .f32⟩
  | .hbm, ⟨6, _⟩ => ⟨S3x1x1024, .f32⟩
  | .hbm, ⟨7, _⟩ => ⟨S2x8192x1024, .f32⟩
  | .hbm, ⟨8, _⟩ => ⟨S2x256x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x256x1024, .f32⟩
  | .hbm, ⟨35, _⟩ => ⟨S_, .f32⟩
  | .hbm, ⟨36, _⟩ => ⟨S2x256, .f32⟩
  | .hbm, ⟨37, _⟩ => ⟨S2x256x1, .f32⟩
  | .hbm, ⟨38, _⟩ => ⟨S_, .f32⟩
  | .hbm, ⟨39, _⟩ => ⟨S2x256x1, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S2x256x1, .f32⟩
  | .hbm, ⟨45, _⟩ => ⟨S2x256x1024, .f32⟩
  | .hbm, ⟨46, _⟩ => ⟨S2x256x1024, .f32⟩
  | .hbm, ⟨47, _⟩ => ⟨S1x1x1024, .f32⟩
  | .hbm, ⟨48, _⟩ => ⟨S2x256x1024, .f32⟩
  | .hbm, ⟨49, _⟩ => ⟨S2x256x1024, .f32⟩
  | .hbm, ⟨50, _⟩ => ⟨S1x1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1x1024, .f32⟩
  | .hbm, ⟨56, _⟩ => ⟨S2x256x1024, .f32⟩
  | .hbm, ⟨57, _⟩ => ⟨S2x256x1024, .f32⟩
  | .hbm, ⟨58, _⟩ => ⟨S1x1x1024, .f32⟩
  | .hbm, ⟨59, _⟩ => ⟨S1x1024, .f32⟩
  | .hbm, ⟨60, _⟩ => ⟨S1x1x1024, .f32⟩
  | .hbm, ⟨61, _⟩ => ⟨S2x256x1024, .f32⟩
  | .hbm, ⟨62, _⟩ => ⟨S2x256x1024, .f32⟩
  | .hbm, ⟨63, _⟩ => ⟨S16384x1024, .f32⟩
  | .hbm, ⟨64, _⟩ => ⟨S512x1024, .f32⟩
  | .hbm, ⟨65, _⟩ => ⟨S16896x1024, .f32⟩
  | .hbm, ⟨66, _⟩ => ⟨S16896x3616, .f32⟩
  | .hbm, ⟨67, _⟩ => ⟨S16896x512, .f32⟩
  | .hbm, ⟨68, _⟩ => ⟨S16896x1024, .f32⟩
  | .hbm, ⟨69, _⟩ => ⟨S16896x2048, .f32⟩
  | .hbm, ⟨70, _⟩ => ⟨S16896x32, .f32⟩
  | .hbm, ⟨71, _⟩ => ⟨S_, .i32⟩
  | .hbm, ⟨72, _⟩ => ⟨S_, .f32⟩
  | .hbm, ⟨73, _⟩ => ⟨S16896x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c : Ref sig .tc := ⟨.hbm, 71, rfl⟩
abbrev main_call0_v0 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel3.lean ====
abbrev S16896x1024 : Shape := ⟨2, ![16896, 1024]⟩
abbrev S3x1x6144 : Shape := ⟨3, ![3, 1, 6144]⟩
abbrev S16384x1024 : Shape := ⟨2, ![16384, 1024]⟩
abbrev S1024x1024 : Shape := ⟨2, ![1024, 1024]⟩
abbrev S512x1024 : Shape := ⟨2, ![512, 1024]⟩
abbrev S1x1x6144 : Shape := ⟨3, ![1, 1, 6144]⟩
abbrev S1x6144 : Shape := ⟨2, ![1, 6144]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16896x1024, .f32⟩
  | .hbm, ⟨1, _⟩ => ⟨S3x1x6144, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16896x1024 : Shape := ⟨2, ![16896, 1024]⟩
abbrev S3x1x6144 : Shape := ⟨3, ![3, 1, 6144]⟩
abbrev S16384x1024 : Shape := ⟨2, ![16384, 1024]⟩
abbrev S1024x1024 : Shape := ⟨2, ![1024, 1024]⟩
abbrev S2x8192x1024 : Shape := ⟨3, ![2, 8192, 1024]⟩
abbrev S2x1x1024 : Shape := ⟨3, ![2, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S3x1x6144, .f32⟩
  | .hbm, ⟨2, _⟩ => ⟨S16384x1024, .bf16⟩
  | .hbm, ⟨3, _⟩ => ⟨S1024x1024, .f32⟩
  | .hbm, ⟨4, _⟩ => ⟨S16384x1024, .f32⟩
  | .hbm, ⟨5, _⟩ => ⟨S2x8192x1024, .f32⟩
  | .hbm, ⟨6, _⟩ => ⟨S2x1x1024, .f32⟩
  | .hbm, ⟨7, _⟩ => ⟨S2x8192x1024, .bf16⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩
abbrev S3x1x6144 : Shape := ⟨3, ![3, 1, 6144]⟩
abbrev S16896x1024 : Shape := ⟨2, ![16896, 1024]⟩
abbrev S16896x2048 : Shape := ⟨2, ![16896, 2048]⟩
abbrev S2x16 : Shape := ⟨2, ![2, 16]⟩
abbrev S1024 : Shape := ⟨1, ![1024]⟩
abbrev S1536x1024 : Shape := ⟨2, ![1536, 1024]⟩
abbrev S1x16 : Shape := ⟨2, ![1, 16]⟩
abbrev S16 : Shape := ⟨1, ![16]⟩
abbrev S16x64 : Shape := ⟨2, ![16, 64]⟩
abbrev S1x1024 : Shape := ⟨2, ![1, 1024]⟩
abbrev S1024x1024 : Shape := ⟨2, ![1024, 1024]⟩
abbrev S1x1x6144 : Shape := ⟨3, ![1, 1, 6144]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S1x6144 : Shape := ⟨2, ![1, 6144]⟩

abbrev nBuf : Space → Nat
  | .hbm => 26
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x512, .f32⟩
  | .hbm, ⟨3, _⟩ => ⟨S512x512, .f32⟩
  | .hbm, ⟨4, _⟩ => ⟨S3x1x6144, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x1024, .f32⟩
  | .hbm, ⟨9, _⟩ => ⟨S2x16, .f32⟩
  | .hbm, ⟨10, _⟩ => ⟨S1024, .f32⟩
  | .hbm, ⟨11, _⟩ => ⟨S1536x1024, .f32⟩
  | .hbm, ⟨12, _⟩ => ⟨S1x16, .f32⟩
  | .hbm, ⟨13, _⟩ => ⟨S16, .f32⟩
  | .hbm, ⟨14, _⟩ => ⟨S1x16, .f32⟩
  | .hbm, ⟨15, _⟩ => ⟨S16, .f32⟩
  | .hbm, ⟨16, _⟩ => ⟨S16, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1x6144, .f32⟩
  | .local _ .vmem, ⟨7, _⟩ => ⟨S1x1x6144, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩
abbrev S3x1x6144 : Shape := ⟨3, ![3, 1, 6144]⟩
abbrev S16896x1024 : Shape := ⟨2, ![16896, 1024]⟩
abbrev S16896x2048 : Shape := ⟨2, ![16896, 2048]⟩
abbrev S2x16 : Shape := ⟨2, ![2, 16]⟩
abbrev S1024 : Shape := ⟨1, ![1024]⟩
abbrev S1536x1024 : Shape := ⟨2, ![1536, 1024]⟩
abbrev S16896x16x64 : Shape := ⟨3, ![16896, 16, 64]⟩
abbrev S1x16 : Shape := ⟨2, ![1, 16]⟩
abbrev S16 : Shape := ⟨1, ![16]⟩
abbrev S16x1 : Shape := ⟨2, ![16, 1]⟩
abbrev S1x16x1 : Shape := ⟨3, ![1, 16, 1]⟩
abbrev S_ : Shape := ⟨0, ![]⟩
abbrev S16896x4x256 : Shape := ⟨3, ![16896, 4, 256]⟩
abbrev S4x256 : Shape := ⟨2, ![4, 256]⟩
abbrev S16896x4 : Shape := ⟨2, ![16896, 4]⟩
abbrev S16896x4x1 : Shape := ⟨3, ![16896, 4, 1]⟩
abbrev S1x4x256 : Shape := ⟨3, ![1, 4, 256]⟩
abbrev S16896x512 : Shape := ⟨2, ![16896, 512]⟩
abbrev S16896x1536 : Shape := ⟨2, ![16896, 1536]⟩
abbrev S3x1x1024 : Shape := ⟨3, ![3, 1, 1024]⟩
abbrev S2x8192x1024 : Shape := ⟨3, ![2, 8192, 1024]⟩
abbrev S2x256x1024 : Shape := ⟨3, ![2, 256, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x512, .f32⟩
  | .hbm, ⟨3, _⟩ => ⟨S512x512, .f32⟩
  | .hbm, ⟨4, _⟩ => ⟨S3x1x6144, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x1024, .f32⟩
  | .hbm, ⟨9, _⟩ => ⟨S2x16, .f32⟩
  | .hbm, ⟨10, _⟩ => ⟨S1024, .f32⟩
  | .hbm, ⟨11, _⟩ => ⟨S1536x1024, .f32⟩
  | .hbm, ⟨12, _⟩ => ⟨S16896x1024, .f32⟩
  | .hbm, ⟨13, _⟩ => ⟨S16896x16x64, .f32⟩
  | .hbm, ⟨14, _⟩ => ⟨S16896x16x64, .f32⟩
  | .hbm, ⟨15, _⟩ => ⟨S1x16, .f32⟩
  | .hbm, ⟨16, _⟩ => ⟨S16, .f32⟩
  | .hbm, ⟨17, _⟩ => ⟨S16x1, .f32⟩
  | .hbm, ⟨18, _⟩ => ⟨S1x16x1, .f32⟩
  | .hbm, ⟨19, _⟩ => ⟨S16896x16x64, .f32⟩
  | .hbm, ⟨20, _⟩ => ⟨S16896x16x64, .f32⟩
  | .hbm, ⟨21, _⟩ => ⟨S16896x16x64, .f32⟩
  | .hbm, ⟨22, _⟩ => ⟨S16896x16x64, .f32⟩
  | .hbm, ⟨23, _⟩ => ⟨S16896x16x64, .f32⟩
  | .hbm, ⟨24, _⟩ => ⟨S1x16, .f32⟩
  | .hbm, ⟨25, _⟩ => ⟨S16, .f32⟩
  | .hbm, ⟨26, _⟩ => ⟨S16x1, .f32⟩
  | .hbm, ⟨27, _⟩ => ⟨S1x16x1, .f32⟩
  | .hbm, ⟨28, _⟩ => ⟨S16896x16x64, .f32⟩
  | .hbm, ⟨29, _⟩ => ⟨S16896x16x64, .f32⟩
  | .hbm, ⟨30, _⟩ => ⟨S16896x16x64, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S_, .f32⟩
  | .hbm, ⟨35, _⟩ => ⟨S16896x1024, .f32⟩
  | .hbm, ⟨36, _⟩ => ⟨S16896x1024, .f32⟩
  | .hbm, ⟨37, _⟩ => ⟨S_, .f32⟩
  | .hbm, ⟨38, _⟩ => ⟨S16896x1024, .f32⟩
  | .hbm, ⟨39, _⟩ => ⟨S16896x1024, .f32⟩
  | .hbm, ⟨40, _⟩ => ⟨S16896x1024, .f32⟩
  | .hbm, ⟨41, _⟩ => ⟨S16896x1024, .f32⟩
  | .hbm, ⟨42, _⟩ => ⟨S16896x4x256, .f32⟩
  | .hbm, ⟨43, _⟩ => ⟨S4x256, .f32⟩
  | .hbm, ⟨44, _⟩ => ⟨S16896x4x256, .f32⟩
  | .hbm, ⟨45, _⟩ => ⟨S_, .f32⟩
  | .hbm, ⟨46, _⟩ => ⟨S16896x4, .f32⟩
  | .hbm, ⟨47, _⟩ => ⟨S16896x4x1, .f32⟩
  | .hbm, ⟨48, _⟩ => ⟨S_, .f32⟩
  | .hbm, ⟨49, _⟩ => ⟨S16896x4x1, .f32⟩
  | .hbm, ⟨50, _⟩ => ⟨S16896x4x1, .f32⟩
  | .hbm, ⟨51, _⟩ => ⟨S_, .f32⟩
  | .hbm, ⟨52, _⟩ => ⟨S16896x4x1, .f32⟩
  | .hbm, ⟨53, _⟩ => ⟨S16896x4x1, .f32⟩
  | .hbm, ⟨54, _⟩ => ⟨S16896x4x1, .f32⟩
  | .hbm, ⟨55, _⟩ => ⟨S16896x4x256, .f32⟩
  | .hbm, ⟨56, _⟩ => ⟨S16896x4x256, .f32⟩
  | .hbm, ⟨57, _⟩ => ⟨S1x4x256, .f32⟩
  | .hbm, ⟨58, _⟩ => ⟨S16896x4x256, .f32⟩
  | .hbm, ⟨59, _⟩ => ⟨S16896x4x256, .f32⟩
  | .hbm, ⟨60, _⟩ => ⟨S16896x512, .f32⟩
  | .hbm, ⟨61, _⟩ => ⟨S16896x1024, .f32⟩
  | .hbm, ⟨62, _⟩ => ⟨S16896x1536, .f32⟩
  | .hbm, ⟨63, _⟩ => ⟨S16896x1024, .f32⟩
  | .hbm, ⟨64, _⟩ => ⟨S3x1x1024, .f32⟩
  | .hbm, ⟨65, _⟩ => ⟨S16384x1024, .f32⟩
  | .hbm, ⟨66, _⟩ => ⟨S2x8192x1024, .f32⟩
  | .hbm, ⟨67, _⟩ => ⟨S512x1024, .f32⟩
  | .hbm, ⟨68, _⟩ => ⟨S2x256x1024, .f32⟩
  | .hbm, ⟨69, _⟩ => ⟨S2x8192x1024, .f32⟩
  | .hbm, ⟨70, _⟩ => ⟨S2x1x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x256x1024, .f32⟩
  | .hbm, ⟨75, _⟩ => ⟨S1x1x1024, .f32⟩
  | .hbm, ⟨76, _⟩ => ⟨S1x1024, .f32⟩
  | .hbm, ⟨77, _⟩ => ⟨S1x1x1024, .f32⟩
  | .hbm, ⟨78, _⟩ => ⟨S2x256x1024, .f32⟩
  | .hbm, ⟨79, _⟩ => ⟨S2x256x1024, .f32⟩
  | .hbm, ⟨80, _⟩ => ⟨S2x256x1024, .f32⟩
  | .hbm, ⟨81, _⟩ => ⟨S16384x1024, .f32⟩
  | .hbm, ⟨82, _⟩ => ⟨S512x1024, .f32⟩
  | .hbm, ⟨83, _⟩ => ⟨S16896x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Proof.KernelIdealPure.lean ====
module

public import proofs.«01_k».proof.Proof.Gen.KernelIdeal.Frame
public import proofs.«01_k».proof.Proof.Gen.KernelIdeal.Loops

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # What the attention kernel computes at one grid point, as functions of the blocks it reads -/

/-- Rows `512 k … 512 k + 511` of the keys. -/
def kRows (x5 : Vec F S8192x256 .bf16) (k : Fin 16) : Vec F S512x256 .bf16 :=
  View.ld x5 (Rect.unit (s := S8192x256) (k0_off3 (BitVec.ofNat 32 k.val)) S512x256.size (k0_off3_inb k))
/-- Rows `512 k … 512 k + 511` of the values. -/
def vRows (x7 : Vec F S8192x128 .bf16) (k : Fin 16) : Vec F S512x128 .bf16 :=
  View.ld x7 (Rect.unit (s := S8192x128) (k0_off4 (BitVec.ofNat 32 k.val)) S512x128.size (k0_off4_inb k))

/-- The first head's accumulator after the context rows and the first `n` chunks, all weights taken at the fixed shift `b`. -/
def fix0 (v0 : Vec F S1024x128 .bf16) (b : FVec F S1024x1 .f32) (x4 : Vec F S256x256 .bf16) (x5 : Vec F S8192x256 .bf16)
    (x6 : Vec F S256x128 .bf16) (x7 : Vec F S8192x128 .bf16) : (n : ℕ) → n ≤ 16 → FVec F S1024x128 .f32
  | 0, _ => k0_pay5 v0 b x4 x6
  | n + 1, h => k0_pay37 v0 b (fix0 v0 b x4 x5 x6 x7 n (by omega)) (kRows x5 ⟨n, h⟩) (vRows x7 ⟨n, h⟩)

/-- The second head's. -/
def fix1 (v1 : Vec F S1024x128 .bf16) (b : FVec F S1024x1 .f32) (x4 : Vec F S256x256 .bf16) (x5 : Vec F S8192x256 .bf16)
    (x6 : Vec F S256x128 .bf16) (x7 : Vec F S8192x128 .bf16) : (n : ℕ) → n ≤ 16 → FVec F S1024x128 .f32
  | 0, _ => k0_pay6 v1 b x4 x6
  | n + 1, h => k0_pay40 v1 b (fix1 v1 b x4 x5 x6 x7 n (by omega)) (kRows x5 ⟨n, h⟩) (vRows x7 ⟨n, h⟩)

/-- The block stored by the fixed-shift branch. -/
def fixedOut (v0 v1 : Vec F S1024x128 .bf16) (b0 b1 : FVec F S1024x1 .f32) (x4 : Vec F S256x256 .bf16) (x5 : Vec F S8192x256 .bf16)
    (x6 : Vec F S256x128 .bf16) (x7 : Vec F S8192x128 .bf16) : FVec F S1024x128 .bf16 :=
  k0_pay3 (fix0 v0 b0 x4 x5 x6 x7 16 (le_refl _)) (fix1 v1 b1 x4 x5 x6 x7 16 (le_refl _))

/-- The running maximum and the accumulator of each head. -/
abbrev RunState (F : FTy → Type) : Type := FVec F S1024x1 .f32 × FVec F S1024x128 .f32 × FVec F S1024x1 .f32 × FVec F S1024x128 .f32

/-- One chunk of the running-maximum branch. -/
def runStep (v0 v1 : Vec F S1024x128 .bf16) (s : RunState F) (kb : Vec F S512x256 .bf16) (vb : Vec F S512x128 .bf16) : RunState F :=
  (k0_pay43 v0 s.1 kb, k0_pay44 v0 s.1 s.2.1 kb vb, k0_pay46 v1 s.2.2.1 kb, k0_pay47 v1 s.2.2.1 s.2.2.2 kb vb)

/-- The state after the context rows and the first `n` chunks. -/
def runSt (v0 v1 : Vec F S1024x128 .bf16) (x5 : Vec F S8192x256 .bf16) (x7 : Vec F S8192x128 .bf16) (init : RunState F) : ℕ → RunState F
  | 0 => init
  | n + 1 => if h : n < k0_t3_loop.trips then
      runStep v0 v1 (runSt v0 v1 x5 x7 init n)
        (View.ld x5 (Rect.unit (s := S8192x256) (k0_off5 ⟨n, h⟩) S512x256.size (k0_off5_inb ⟨n, h⟩)))
        (View.ld x7 (Rect.unit (s := S8192x128) (k0_off6 ⟨n, h⟩) S512x128.size (k0_off6_inb ⟨n, h⟩)))
    else runSt v0 v1 x5 x7 init n

/-- The state after the context rows. -/
def runInit (v0 v1 : Vec F S1024x128 .bf16) (x4 : Vec F S256x256 .bf16) (x6 : Vec F S256x128 .bf16) : RunState F :=
  (k0_pay51 v0 x4, k0_pay52 v0 x4 x6, k0_pay54 v1 x4, k0_pay2 x6 (k0_pay55 v1 x4) (k0_pay56 v1 x4) k0_pay57 (k0_pay58 (F := F)))

/-- The block stored by the running-maximum branch. -/
def runOut (v0 v1 : Vec F S1024x128 .bf16) (x4 : Vec F S256x256 .bf16) (x5 : Vec F S8192x256 .bf16)
    (x6 : Vec F S256x128 .bf16) (x7 : Vec F S8192x128 .bf16) : FVec F S1024x128 .bf16 :=
  k0_pay3 (runSt v0 v1 x5 x7 (runInit v0 v1 x4 x6) k0_t3_loop.trips).2.1 (runSt v0 v1 x5 x7 (runInit v0 v1 x4 x6) k0_t3_loop.trips).2.2.2

/-- The largest squared norm of the first head's keys over the context rows and the first `n` chunks. -/
def nrm0 (i : grid0.Coords) (hc1 : k0_cond1 i = 1#1) (x4 : Vec F S256x256 .bf16) (x5 : Vec F S8192x256 .bf16) : ℕ → FVec F S1x1 .f32
  | 0 => k0_pay59 x4
  | n + 1 => if h : n < k0_t1_loop.trips then
      k0_pay60 (nrm0 i hc1 x4 x5 n) (View.ld x5 (Rect.unit (s := S8192x256) (k0_off1 ⟨n, h⟩) S512x256.size (k0_off1_inb i ⟨n, h⟩ hc1)))
    else nrm0 i hc1 x4 x5 n

/-- The second head's. -/
def nrm1 (i : grid0.Coords) (hc1 : k0_cond1 i = 1#1) (x4 : Vec F S256x256 .bf16) (x5 : Vec F S8192x256 .bf16) : ℕ → FVec F S1x1 .f32
  | 0 => k0_pay62 x4
  | n + 1 => if h : n < k0_t2_loop.trips then
      k0_pay63 (nrm1 i hc1 x4 x5 n) (View.ld x5 (Rect.unit (s := S8192x256) (k0_off2 ⟨n, h⟩) S512x256.size (k0_off2_inb i ⟨n, h⟩ hc1)))
    else nrm1 i hc1 x4 x5 n

/-- The scratch after the key norms were written: the two heads' planes. -/
def scr (i : grid0.Coords) (hc1 : k0_cond1 i = 1#1) (x4 : Vec F S256x256 .bf16) (x5 : Vec F S8192x256 .bf16) : Vec F S2x8x128 .f32 :=
  View.canon (Val := Elt F) (s := S2x8x128) (e := .f32)
    [⟨Rect.unit (s := S2x8x128) ![1, 0, 0] S1x8x128.size inb_S2x8x128_S1x8x128_1_0_0, k0_pay64 (nrm1 i hc1 x4 x5 k0_t2_loop.trips)⟩,
     ⟨Rect.unit (s := S2x8x128) ![0, 0, 0] S1x8x128.size inb_S2x8x128_S1x8x128_0_0_0, k0_pay61 (nrm0 i hc1 x4 x5 k0_t1_loop.trips)⟩]

/-- The queries of the two heads. -/
abbrev q0 (x3 : Vec F S1024x256 .bf16) : Vec F S1024x128 .bf16 :=
  View.ld x3 (Rect.unit (s := S1024x256) ![0, 0] S1024x128.size inb_S1024x256_S1024x128_0_0)
abbrev q1 (x3 : Vec F S1024x256 .bf16) : Vec F S1024x128 .bf16 :=
  View.ld x3 (Rect.unit (s := S1024x256) ![0, 128] S1024x128.size inb_S1024x256_S1024x128_0_128)
/-- The two heads' key norms, read off the scratch. -/
abbrev n0 (xs : Vec F S2x8x128 .f32) : Vec F S1x1x1 .f32 :=
  View.ld xs (Rect.unit (s := S2x8x128) ![0, 0, 0] S1x1x1.size inb_S2x8x128_S1x1x1_0_0_0)
abbrev n1 (xs : Vec F S2x8x128 .f32) : Vec F S1x1x1 .f32 :=
  View.ld xs (Rect.unit (s := S2x8x128) ![1, 0, 0] S1x1x1.size inb_S2x8x128_S1x1x1_1_0_0)

/-- The branch taken: whether the widest bound is at most the threshold. -/
def narrow (x3 : Vec F S1024x256 .bf16) (xs : Vec F S2x8x128 .f32) : BitVec 1 :=
  Scalar.cmpi .ne (Scalar.extui (Scalar.cmpf .ole (k0_pay67 (q0 x3) (q1 x3) (n0 xs) (n1 xs)) (Scalar.ofBits .f32 0x42480000#32 : F .f32)) : BitVec 32) 0#32

/-- The block stored, from the blocks read and the key norms in the scratch. -/
def outOf (x3 : Vec F S1024x256 .bf16) (x4 : Vec F S256x256 .bf16) (x5 : Vec F S8192x256 .bf16) (x6 : Vec F S256x128 .bf16)
    (x7 : Vec F S8192x128 .bf16) (xs : Vec F S2x8x128 .f32) : FVec F S1024x128 .bf16 :=
  if narrow x3 xs = 1#1 then fixedOut (q0 x3) (q1 x3) (k0_pay65 (q0 x3) (n0 xs)) (k0_pay66 (q1 x3) (n1 xs)) x4 x5 x6 x7
  else runOut (q0 x3) (q1 x3) x4 x5 x6 x7

end Cert.KernelIdeal.Att

end
-- ==== Proof.Softmax.lean ====
module

public import Mathlib.Data.EReal.Inv
public import Mathlib.Analysis.SpecialFunctions.Pow.Real
public import Idealize.ShloMosaic.PureOps.Ideal

@[expose] public section

noncomputable section

namespace Cert.Soft

open Idealize.ShloMosaic
open scoped BigOperators

/-! # Sums with weights `2 ^ (s - c)`, and the quotient a softmax takes

The scores `s` and the shift `c` are reals, the values `v` any extended reals. Changing the shift multiplies such a sum by a
positive real, so the quotient of two such sums does not depend on it. -/

/-- A positive real factor goes inside a sum of extended reals. -/
theorem mul_sum {ι : Type} (T : Finset ι) (a : ℝ) (ha : 0 ≤ a) (f : ι → EReal) :
    (a : EReal) * ∑ k ∈ T, f k = ∑ k ∈ T, (a : EReal) * f k := by
  classical
  induction T using Finset.induction_on with
  | empty => simp
  | insert x T hx ih =>
    rw [Finset.sum_insert hx, Finset.sum_insert hx, EReal.left_distrib_of_nonneg_of_ne_top (by exact_mod_cast ha) (EReal.coe_ne_top a), ih]

/-- The weighted sum at the shift `c`. -/
def wsum {ι : Type} [Fintype ι] (s : ι → ℝ) (c : ℝ) (v : ι → EReal) : EReal :=
  ∑ k, ((2 : ℝ) ^ (s k - c) : ℝ) * v k

theorem wsum_shift {ι : Type} [Fintype ι] (s : ι → ℝ) (c c' : ℝ) (v : ι → EReal) :
    (((2 : ℝ) ^ (c - c') : ℝ) : EReal) * wsum s c v = wsum s c' v := by
  unfold wsum
  rw [mul_sum _ _ (Real.rpow_nonneg (by norm_num) _)]
  refine Finset.sum_congr rfl fun k _ => ?_
  rw [← mul_assoc, ← EReal.coe_mul, ← Real.rpow_add (by norm_num)]
  congr 3; ring

/-- The weights' own sum is a real … -/
theorem wsum_one {ι : Type} [Fintype ι] (s : ι → ℝ) (c : ℝ) :
    wsum s c (fun _ => 1) = ((∑ k, (2 : ℝ) ^ (s k - c) : ℝ) : EReal) := by
  unfold wsum
  simp only [mul_one]
  classical
  have : ∀ T : Finset ι, (∑ k ∈ T, (((2 : ℝ) ^ (s k - c) : ℝ) : EReal)) = ((∑ k ∈ T, (2 : ℝ) ^ (s k - c) : ℝ) : EReal) := by
    intro T
    induction T using Finset.induction_on with
    | empty => simp
    | insert x T hx ih => rw [Finset.sum_insert hx, Finset.sum_insert hx, ih, EReal.coe_add]
  exact this _

/-- … and positive. -/
theorem sum_pos {ι : Type} [Fintype ι] [Nonempty ι] (s : ι → ℝ) (c : ℝ) : 0 < ∑ k, (2 : ℝ) ^ (s k - c) :=
  Finset.sum_pos (fun _ _ => Real.rpow_pos_of_pos (by norm_num) _) Finset.univ_nonempty

/-- A quotient by a positive real is the product with its reciprocal. -/
theorem div_pos_real (x : EReal) (d : ℝ) (hd : 0 < d) : Ideal.div x (d : EReal) = ((d⁻¹ : ℝ) : EReal) * x := by
  unfold Ideal.div
  rw [if_neg (by exact_mod_cast hd.ne'), mul_comm, EReal.coe_inv]

/-- The softmax-weighted mean, at any shift. -/
def mean {ι : Type} [Fintype ι] (s : ι → ℝ) (c : ℝ) (v : ι → EReal) : EReal :=
  Ideal.div (wsum s c v) (wsum s c fun _ => 1)

theorem mean_shift {ι : Type} [Fintype ι] [Nonempty ι] (s : ι → ℝ) (c c' : ℝ) (v : ι → EReal) : mean s c v = mean s c' v := by
  unfold mean
  rw [wsum_one, wsum_one, div_pos_real _ _ (sum_pos s c), div_pos_real _ _ (sum_pos s c'), ← wsum_shift s c c', ← mul_assoc, ← EReal.coe_mul]
  congr 2
  have h : ∑ k, (2 : ℝ) ^ (s k - c') = (2 : ℝ) ^ (c - c') * ∑ k, (2 : ℝ) ^ (s k - c) := by
    rw [Finset.mul_sum]
    refine Finset.sum_congr rfl fun k _ => ?_
    rw [← Real.rpow_add (by norm_num)]; congr 1; ring
  rw [h, mul_inv]
  have : (2 : ℝ) ^ (c - c') ≠ 0 := (Real.rpow_pos_of_pos (by norm_num) _).ne'
  field_simp

/-- The mean as the reference takes it: each value times its own normalized weight, the weights exponentials of the scores
    times `log 2`. -/
theorem mean_eq_host {ι : Type} [Fintype ι] [Nonempty ι] (s : ι → ℝ) (M : ℝ) (v : ι → EReal) :
    ∑ k, v k * Ideal.div ((Real.exp (s k * Real.log 2 - M) : ℝ) : EReal) ((∑ k, Real.exp (s k * Real.log 2 - M) : ℝ) : EReal)
      = mean s (M / Real.log 2) v := by
  have hl : Real.log 2 ≠ 0 := (Real.log_pos (by norm_num)).ne'
  have he : ∀ k, Real.exp (s k * Real.log 2 - M) = (2 : ℝ) ^ (s k - M / Real.log 2) := fun k => by
    rw [Real.rpow_def_of_pos (by norm_num)]; congr 1; field_simp
  simp only [he]
  unfold mean
  rw [wsum_one, div_pos_real _ _ (sum_pos _ _)]
  unfold wsum
  rw [mul_sum _ _ (inv_nonneg.mpr (sum_pos _ _).le)]
  refine Finset.sum_congr rfl fun k _ => ?_
  rw [div_pos_real _ _ (sum_pos _ _), mul_comm, mul_assoc]

/-- `exp2` of a real. -/
theorem exp2_coe (r : ℝ) : Ideal.exp2 (r : EReal) = (((2 : ℝ) ^ r : ℝ) : EReal) := rfl

/-- A maximum of reals, from −∞, over a set that is not empty is a real. -/
theorem fold_max_real {ι : Type} (T : Finset ι) (f : ι → EReal) (s : ι → ℝ) (hf : ∀ k, f k = (s k : EReal)) (hT : T.Nonempty) :
    ∃ r : ℝ, T.fold max ⊥ f = (r : EReal) := by
  classical
  have h : ∀ T : Finset ι, (T = ∅ ∧ T.fold max ⊥ f = ⊥) ∨ ∃ r : ℝ, T.fold max ⊥ f = (r : EReal) := by
    intro T
    induction T using Finset.induction_on with
    | empty => exact .inl ⟨rfl, rfl⟩
    | insert x T hx ih =>
      right
      rw [Finset.fold_insert hx, hf]
      rcases ih with ⟨_, h⟩ | ⟨r, h⟩
      · exact ⟨s x, by rw [h, max_bot_right]⟩
      · exact ⟨max (s x) r, by rw [h]; exact (EReal.coe_strictMono.monotone.map_max).symm⟩
  exact (h T).resolve_left fun h => hT.ne_empty h.1

end Cert.Soft
-- ==== Proof.PayValue.lean ====
module

public import proofs.«01_k».proof.Proof.KernelIdealPure
public import proofs.«01_k».proof.Proof.Softmax
public import Idealize.ShloMosaic.Lib.Pointwise
public import Idealize.ShloMosaic.Lib.ValueIdx
public import Idealize.ShloMosaic.Lib.Pipeline.Value
public import Idealize.ShloMosaic.Lib.Pipeline.ValueKit.Tiles

@[expose] public section

noncomputable section

namespace Cert.KernelIdeal.Att

open Cert.KernelIdeal Cert.KernelIdeal.Gen
open Idealize.ShloMosaic Idealize.ShloMosaic.TcCoe
open scoped BigOperators

/-! # The body's payloads at an index, on extended reals -/

/-- The score of query row `r` against key row `j`, the head's columns of the keys starting at `o`. -/
def sc (o : ℕ) (ho : o ≤ 128) {N : ℕ} (q : Vec Ideal S1024x128 .bf16) (K : Vec Ideal ⟨2, ![N, 256]⟩ .bf16) (r : Fin 1024) (j : Fin N) : EReal :=
  ∑ k : Fin 128, q (ix2 r k) * K (ix2 j ⟨o + k.val, by have := k.isLt; omega⟩)

/-- What the first head's accumulator sums, lane by lane: the values in its own half, ones in the other. -/
def sel0 {N : ℕ} (V : Vec Ideal ⟨2, ![N, 128]⟩ .bf16) (j : Fin N) (l : Fin 128) : EReal :=
  if l.val < 64 then V (ix2 j l) else 1
/-- The second head's. -/
def sel1 {N : ℕ} (V : Vec Ideal ⟨2, ![N, 128]⟩ .bf16) (j : Fin N) (l : Fin 128) : EReal :=
  if l.val < 64 then 1 else V (ix2 j l)

theorem lane_lt (l : Fin 128) (x y : EReal) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide
  rw [h]; split <;> simp [Scalar.select]
theorem lane_ge (l : Fin 128) (x y : EReal) :
    Scalar.select (IntOp.cmpi .sge (BitVec.ofNat 32 l.val) 64#32) x y = if l.val < 64 then y else x := by
  have h : ∀ l : Fin 128, IntOp.cmpi .sge (BitVec.ofNat 32 l.val) 64#32 = if l.val < 64 then 0#1 else 1#1 := by decide
  rw [h]; split <;> simp [Scalar.select]

theorem neg_inf : Ideal.ofBits .f32 0xFF800000#32 = ⊥ := by
  simp [Ideal.ofBits, Ideal.ieee]

theorem pay42 (q : Vec Ideal S1024x128 .bf16) (K : Vec Ideal S512x256 .bf16) (r : Fin 1024) (j : Fin 512) :
    k0_pay42 q K (ix2 r j) = sc 0 (by omega) q K r j := by
  unfold k0_pay42 sc
  simp only [pointwise]
  simp
theorem pay45 (q : Vec Ideal S1024x128 .bf16) (K : Vec Ideal S512x256 .bf16) (r : Fin 1024) (j : Fin 512) :
    k0_pay45 q K (ix2 r j) = sc 128 (by omega) q K r j := by
  unfold k0_pay45 sc
  simp only [pointwise]
  simp
theorem pay50 (q : Vec Ideal S1024x128 .bf16) (K : Vec Ideal S256x256 .bf16) (r : Fin 1024) (j : Fin 256) :
    k0_pay50 q K (ix2 r j) = sc 0 (by omega) q K r j := by
  unfold k0_pay50 sc
  simp only [pointwise]
  simp
theorem pay53 (q : Vec Ideal S1024x128 .bf16) (K : Vec Ideal S256x256 .bf16) (r : Fin 1024) (j : Fin 256) :
    k0_pay53 q K (ix2 r j) = sc 128 (by omega) q K r j := by
  unfold k0_pay53 sc
  simp only [pointwise]
  simp

theorem pay5 (q : Vec Ideal S1024x128 .bf16) (b : FVec Ideal S1024x1 .f32) (K : Vec Ideal S256x256 .bf16) (V : Vec Ideal S256x128 .bf16)
    (r : Fin 1024) (l : Fin 128) :
    k0_pay5 q b K V (ix2 r l) = ∑ j : Fin 256, Ideal.exp2 (sc 0 (by omega) q K r j - b (ix2 r 0)) * sel0 V j l := by
  unfold k0_pay5 k0_pay4 sc sel0
  simp only [pointwise]
  simp [lane_lt]
  rfl
theorem pay6 (q : Vec Ideal S1024x128 .bf16) (b : FVec Ideal S1024x1 .f32) (K : Vec Ideal S256x256 .bf16) (V : Vec Ideal S256x128 .bf16)
    (r : Fin 1024) (l : Fin 128) :
    k0_pay6 q b K V (ix2 r l) = ∑ j : Fin 256, Ideal.exp2 (sc 128 (by omega) q K r j - b (ix2 r 0)) * sel1 V j l := by
  unfold k0_pay6 k0_pay4 sc sel1
  simp only [pointwise]
  simp [lane_ge]
  rfl
theorem pay37 (q : Vec Ideal S1024x128 .bf16) (b : FVec Ideal S1024x1 .f32) (a : FVec Ideal S1024x128 .f32) (K : Vec Ideal S512x256 .bf16)
    (V : Vec Ideal S512x128 .bf16) (r : Fin 1024) (l : Fin 128) :
    k0_pay37 q b a K V (ix2 r l) = a (ix2 r l) + ∑ j : Fin 512, Ideal.exp2 (sc 0 (by omega) q K r j - b (ix2 r 0)) * sel0 V j l := by
  unfold k0_pay37 sc sel0
  simp only [pointwise]
  simp [lane_lt]
  rfl
theorem pay40 (q : Vec Ideal S1024x128 .bf16) (b : FVec Ideal S1024x1 .f32) (a : FVec Ideal S1024x128 .f32) (K : Vec Ideal S512x256 .bf16)
    (V : Vec Ideal S512x128 .bf16) (r : Fin 1024) (l : Fin 128) :
    k0_pay40 q b a K V (ix2 r l) = a (ix2 r l) + ∑ j : Fin 512, Ideal.exp2 (sc 128 (by omega) q K r j - b (ix2 r 0)) * sel1 V j l := by
  unfold k0_pay40 sc sel1
  simp only [pointwise]
  simp [lane_ge]
  rfl

theorem pay43 (q : Vec Ideal S1024x128 .bf16) (m : FVec Ideal S1024x1 .f32) (K : Vec Ideal S512x256 .bf16) (r : Fin 1024) :
    k0_pay43 q m K (ix2 r 0) = max (m (ix2 r 0)) ((Finset.univ : Finset (Fin 512)).fold max ⊥ (sc 0 (by omega) q K r)) := by
  unfold k0_pay43
  simp only [pointwise]
  simp only [neg_inf]
  rw [show (fun k => k0_pay42 q K (ix2 r k)) = sc 0 (by omega) q K r from funext fun k => pay42 q K r k]
theorem pay46 (q : Vec Ideal S1024x128 .bf16) (m : FVec Ideal S1024x1 .f32) (K : Vec Ideal S512x256 .bf16) (r : Fin 1024) :
    k0_pay46 q m K (ix2 r 0) = max (m (ix2 r 0)) ((Finset.univ : Finset (Fin 512)).fold max ⊥ (sc 128 (by omega) q K r)) := by
  unfold k0_pay46
  simp only [pointwise]
  simp only [neg_inf]
  rw [show (fun k => k0_pay45 q K (ix2 r k)) = sc 128 (by omega) q K r from funext fun k => pay45 q K r k]
theorem pay51 (q : Vec Ideal S1024x128 .bf16) (K : Vec Ideal S256x256 .bf16) (r : Fin 1024) :
    k0_pay51 q K (ix2 r 0) = (Finset.univ : Finset (Fin 256)).fold max ⊥ (sc 0 (by omega) q K r) := by
  unfold k0_pay51 k0_pay48
  simp only [pointwise]
  simp only [neg_inf, max_bot_left]
  rw [show (fun k => k0_pay50 q K (ix2 r k)) = sc 0 (by omega) q K r from funext fun k => pay50 q K r k]
theorem pay54 (q : Vec Ideal S1024x128 .bf16) (K : Vec Ideal S256x256 .bf16) (r : Fin 1024) :
    k0_pay54 q K (ix2 r 0) = (Finset.univ : Finset (Fin 256)).fold max ⊥ (sc 128 (by omega) q K r) := by
  unfold k0_pay54 k0_pay49
  simp only [pointwise]
  simp only [neg_inf, max_bot_left]
  rw [show (fun k => k0_pay53 q K (ix2 r k)) = sc 128 (by omega) q K r from funext fun k => pay53 q K r k]

theorem pay44 (q : Vec Ideal S1024x128 .bf16) (m : FVec Ideal S1024x1 .f32) (a : FVec Ideal S1024x128 .f32) (K : Vec Ideal S512x256 .bf16)
    (V : Vec Ideal S512x128 .bf16) (r : Fin 1024) (l : Fin 128) :
    k0_pay44 q m a K V (ix2 r l) = Ideal.exp2 (m (ix2 r 0) - k0_pay43 q m K (ix2 r 0)) * a (ix2 r l)
      + ∑ j : Fin 512, Ideal.exp2 (sc 0 (by omega) q K r j - k0_pay43 q m K (ix2 r 0)) * sel0 V j l := by
  unfold k0_pay44 sel0
  simp only [pointwise]
  simp [lane_lt, pay42]
  rfl
theorem pay47 (q : Vec Ideal S1024x128 .bf16) (m : FVec Ideal S1024x1 .f32) (a : FVec Ideal S1024x128 .f32) (K : Vec Ideal S512x256 .bf16)
    (V : Vec Ideal S512x128 .bf16) (r : Fin 1024) (l : Fin 128) :
    k0_pay47 q m a K V (ix2 r l) = Ideal.exp2 (m (ix2 r 0) - k0_pay46 q m K (ix2 r 0)) * a (ix2 r l)
      + ∑ j : Fin 512, Ideal.exp2 (sc 128 (by omega) q K r j - k0_pay46 q m K (ix2 r 0)) * sel1 V j l := by
  unfold k0_pay47 sel1
  simp only [pointwise]
  simp [lane_ge, pay45]
  rfl
theorem pay52 (q : Vec Ideal S1024x128 .bf16) (K : Vec Ideal S256x256 .bf16) (V : Vec Ideal S256x128 .bf16) (r : Fin 1024) (l : Fin 128) :
    k0_pay52 q K V (ix2 r l) = ∑ j : Fin 256, Ideal.exp2 (sc 0 (by omega) q K r j - k0_pay51 q K (ix2 r 0)) * sel0 V j l := by
  unfold k0_pay52 sel0
  simp only [pointwise]
  simp [lane_lt, pay50]
  rfl
theorem pay2 (q : Vec Ideal S1024x128 .bf16) (K : Vec Ideal S256x256 .bf16) (V : Vec Ideal S256x128 .bf16) (r : Fin 1024) (l : Fin 128) :
    k0_pay2 V (k0_pay55 q K) (k0_pay56 q K) k0_pay57 (k0_pay58 (F := Ideal)) (ix2 r l)
      = ∑ j : Fin 256, Ideal.exp2 (sc 128 (by omega) q K r j - k0_pay54 q K (ix2 r 0)) * sel1 V j l := by
  unfold k0_pay2 k0_pay55 k0_pay56 k0_pay57 k0_pay58 sel1
  simp only [pointwise]
  simp [lane_ge, pay53]
  rfl

end Cert.KernelIdeal.Att
-- ==== Proof.PayOut.lean ====
module

public import proofs.«01_k».proof.Proof.KernelIdealPure
public import proofs.«01_k».proof.Proof.Softmax
public import Idealize.ShloMosaic.Lib.Pointwise
public import Idealize.ShloMosaic.Lib.ValueIdx
public import Idealize.ShloMosaic.Lib.Pipeline.Value
public import Idealize.ShloMosaic.Lib.Pipeline.ValueKit.Tiles

@[expose] public section

noncomputable section

namespace Cert.KernelIdeal.Att

open Cert.KernelIdeal Cert.KernelIdeal.Gen
open Idealize.ShloMosaic Idealize.ShloMosaic.TcCoe
open scoped BigOperators

/-! # The quotient stored, and the bounds -/

theorem lane_lt' (l : Fin 128) (x y : EReal) :
    Scalar.select (IntOp.cmpi .slt (BitVec.ofNat 32 l.val) 64#32) x y = if l.val < 64 then x else y := by
  have h : ∀ l : Fin 128, IntOp.cmpi .slt (BitVec.ofNat 32 l.val) 64#32 = if l.val < 64 then 1#1 else 0#1 := by decide
  rw [h]; split <;> simp [Scalar.select]

/-- The stored row: each lane's sum divided by the weights' sum, which the other half of the lanes holds. -/
theorem pay3_lt (a0 a1 : FVec Ideal S1024x128 .f32) (r : Fin 1024) (l : Fin 128) (h : l.val < 64) :
    k0_pay3 a0 a1 (ix2 r l) = Ideal.div (a0 (ix2 r l)) (a0 (ix2 r ⟨l.val + 64, by omega⟩)) := by
  unfold k0_pay3
  simp only [pointwise]
  simp [lane_lt', h]
  congr 2
  refine congrArg _ (Fin.ext ?_)
  show (l.val + 64) % 128 = l.val + 64
  omega
theorem pay3_ge (a0 a1 : FVec Ideal S1024x128 .f32) (r : Fin 1024) (l : Fin 128) (h : ¬ l.val < 64) :
    k0_pay3 a0 a1 (ix2 r l) = Ideal.div (a1 (ix2 r l)) (a1 (ix2 r ⟨l.val - 64, by omega⟩)) := by
  have hl := l.isLt
  unfold k0_pay3
  simp only [pointwise]
  simp [lane_lt', h]
  congr 2
  refine congrArg _ (Fin.ext ?_)
  show (l.val + 64) % 128 = l.val - 64
  omega

theorem sq_nonneg' (x : EReal) : 0 ≤ x * x := by
  induction x with
  | bot => simp
  | top => simp
  | coe r => exact_mod_cast mul_self_nonneg r

theorem sqrt_nonneg' {x : EReal} (h : 0 ≤ x) : 0 ≤ Ideal.sqrt x := by
  induction x with
  | bot => exact absurd h (by simp)
  | top => exact le_top
  | coe r =>
    have hr : 0 ≤ r := by exact_mod_cast h
    show (0 : EReal) ≤ if r < 0 then ⊥ else ((Real.sqrt r : ℝ) : EReal)
    rw [if_neg (not_lt.mpr hr)]
    exact_mod_cast Real.sqrt_nonneg r

theorem sumsq_nonneg {n : ℕ} (f : Fin n → EReal) : 0 ≤ ∑ k, f k * f k := Finset.sum_nonneg fun k _ => sq_nonneg' _

theorem bound_nonneg {a n c d : EReal} (ha : 0 ≤ a) (hn : 0 ≤ n) (hc : 0 ≤ c) (hd : 0 ≤ d) : 0 ≤ Ideal.sqrt a * n * c + d :=
  add_nonneg (mul_nonneg (mul_nonneg (sqrt_nonneg' ha) hn) hc) hd

theorem c1_nonneg : (0 : EReal) ≤ Ideal.ofBits .f32 0x3F8020C5#32 := by
  simp [Ideal.ofBits, Ideal.ieee]
  exact mul_nonneg (EReal.coe_nonneg.mpr (by positivity)) (EReal.coe_nonneg.mpr (by positivity))
theorem c2_nonneg : (0 : EReal) ≤ Ideal.ofBits .f32 0x3A83126F#32 := by
  simp [Ideal.ofBits, Ideal.ieee]
  exact mul_nonneg (EReal.coe_nonneg.mpr (by positivity)) (EReal.coe_nonneg.mpr (by positivity))

theorem fifty : Ideal.ofBits .f32 0x42480000#32 < ⊤ := by
  simp [Ideal.ofBits, Ideal.ieee]
  rw [← EReal.coe_mul]
  exact EReal.coe_lt_top _

theorem pay65_nonneg (q : Vec Ideal S1024x128 .bf16) (n : FVec Ideal S1x1x1 .f32) (hn : 0 ≤ n (ix3 0 0 0)) (r : Fin 1024) :
    0 ≤ k0_pay65 q n (ix2 r 0) := by
  unfold k0_pay65
  simp only [pointwise]
  exact bound_nonneg (sumsq_nonneg _) hn c1_nonneg c2_nonneg
theorem pay66_nonneg (q : Vec Ideal S1024x128 .bf16) (n : FVec Ideal S1x1x1 .f32) (hn : 0 ≤ n (ix3 0 0 0)) (r : Fin 1024) :
    0 ≤ k0_pay66 q n (ix2 r 0) := by
  unfold k0_pay66
  simp only [pointwise]
  exact bound_nonneg (sumsq_nonneg _) hn c1_nonneg c2_nonneg

theorem le_fold {ι : Type} [Fintype ι] (f : ι → EReal) (k : ι) : f k ≤ (Finset.univ : Finset ι).fold max ⊥ f :=
  Finset.le_fold_max (f k) |>.mpr (.inr ⟨k, Finset.mem_univ k, le_refl _⟩)

theorem fold_nonneg {ι : Type} [Fintype ι] (f : ι → EReal) (h : ∀ k, 0 ≤ f k) (k : ι) : 0 ≤ (Finset.univ : Finset ι).fold max ⊥ f :=
  le_trans (h k) (le_fold f k)

theorem pay67_ge (v0 v1 : Vec Ideal S1024x128 .bf16) (n n' : FVec Ideal S1x1x1 .f32) (r : Fin 1024) :
    max (k0_pay65 v0 n (ix2 r 0)) (k0_pay66 v1 n' (ix2 r 0)) ≤ k0_pay67 v0 v1 n n' := by
  unfold k0_pay67
  simp only [pointwise]
  have hb : Ideal.ofBits .f32 0xFF800000#32 = ⊥ := by simp [Ideal.ofBits, Ideal.ieee]
  simp only [hb]
  exact le_fold (fun k : Fin 1024 × Fin 1 => max (k0_pay65 v0 n (ix2 k.1 0)) (k0_pay66 v1 n' (ix2 k.1 0))) (r, 0)

theorem pay59_nonneg (K : Vec Ideal S256x256 .bf16) (j : S1x1.Idx) : 0 ≤ k0_pay59 K j := by
  unfold k0_pay59
  simp only [pointwise]
  have hb : Ideal.ofBits .f32 0xFF800000#32 = ⊥ := by simp [Ideal.ofBits, Ideal.ieee]
  simp only [hb]
  refine fold_nonneg _ (fun k => ?_) (0 : Fin 256)
  exact sumsq_nonneg _
theorem pay62_nonneg (K : Vec Ideal S256x256 .bf16) (j : S1x1.Idx) : 0 ≤ k0_pay62 K j := by
  unfold k0_pay62
  simp only [pointwise]
  have hb : Ideal.ofBits .f32 0xFF800000#32 = ⊥ := by simp [Ideal.ofBits, Ideal.ieee]
  simp only [hb]
  refine fold_nonneg _ (fun k => ?_) (0 : Fin 256)
  exact sumsq_nonneg _
theorem pay60_nonneg (a : FVec Ideal S1x1 .f32) (K : Vec Ideal S512x256 .bf16) (j : S1x1.Idx) (h : 0 ≤ a j) : 0 ≤ k0_pay60 a K j := by
  unfold k0_pay60
  simp only [pointwise]
  exact le_trans h (le_max_left _ _)
theorem pay63_nonneg (a : FVec Ideal S1x1 .f32) (K : Vec Ideal S512x256 .bf16) (j : S1x1.Idx) (h : 0 ≤ a j) : 0 ≤ k0_pay63 a K j := by
  unfold k0_pay63
  simp only [pointwise]
  exact le_trans h (le_max_left _ _)
theorem pay61_nonneg (a : FVec Ideal S1x1 .f32) (h : ∀ j, 0 ≤ a j) (j : S1x8x128.Idx) : 0 ≤ k0_pay61 a j := by
  unfold k0_pay61
  simp only [pointwise]
  exact sqrt_nonneg' (h _)
theorem pay64_nonneg (a : FVec Ideal S1x1 .f32) (h : ∀ j, 0 ≤ a j) (j : S1x8x128.Idx) : 0 ≤ k0_pay64 a j := by
  unfold k0_pay64
  simp only [pointwise]
  exact sqrt_nonneg' (h _)

theorem nrm0_nonneg (i hc) (x4 : Vec Ideal S256x256 .bf16) (x5 : Vec Ideal S8192x256 .bf16) (n : ℕ) (j : S1x1.Idx) : 0 ≤ nrm0 i hc x4 x5 n j := by
  induction n with
  | zero => exact pay59_nonneg _ _
  | succ n ih =>
    unfold nrm0
    split
    · exact pay60_nonneg _ _ _ ih
    · exact ih
theorem nrm1_nonneg (i hc) (x4 : Vec Ideal S256x256 .bf16) (x5 : Vec Ideal S8192x256 .bf16) (n : ℕ) (j : S1x1.Idx) : 0 ≤ nrm1 i hc x4 x5 n j := by
  induction n with
  | zero => exact pay62_nonneg _ _
  | succ n ih =>
    unfold nrm1
    split
    · exact pay63_nonneg _ _ _ ih
    · exact ih

end Cert.KernelIdeal.Att
-- ==== Proof.Block.lean ====
module

public import proofs.«01_k».proof.Proof.PayValue
public import proofs.«01_k».proof.Proof.PayOut

@[expose] public section

noncomputable section

namespace Cert.KernelIdeal.Att

open Cert.KernelIdeal Cert.KernelIdeal.Gen Cert.Soft
open Idealize.ShloMosaic Idealize.ShloMosaic.TcCoe
open scoped BigOperators

/-! # The block the body stores, at an index: a softmax-weighted mean of the values -/

/-! ## The chunks read -/

theorem off3_val : ∀ k : Fin 16, (k0_off3 (BitVec.ofNat 32 k.val) 0 = 512 * k.val ∧ k0_off3 (BitVec.ofNat 32 k.val) 1 = 0) := by decide +kernel
theorem off4_val : ∀ k : Fin 16, (k0_off4 (BitVec.ofNat 32 k.val) 0 = 512 * k.val ∧ k0_off4 (BitVec.ofNat 32 k.val) 1 = 0) := by decide +kernel
theorem trips_eq : k0_t3_loop.trips = 16 := by decide +kernel
theorem off5_val : ∀ k : Fin k0_t3_loop.trips, (k0_off5 k 0 = 512 * k.val ∧ k0_off5 k 1 = 0) := by decide +kernel
theorem off6_val : ∀ k : Fin k0_t3_loop.trips, (k0_off6 k 0 = 512 * k.val ∧ k0_off6 k 1 = 0) := by decide +kernel

theorem kRows_apply (x5 : Vec Ideal S8192x256 .bf16) (k : Fin 16) (j : Fin 512) (c : Fin 256) :
    kRows x5 k (ix2 j c) = x5 (ix2 ⟨512 * k.val + j.val, by have := k.isLt; have := j.isLt; omega⟩ c) := by
  unfold kRows
  refine View.ld_unit_apply_of _ _ _ _ _ _ fun a => ?_
  match a with
  | ⟨0, _⟩ => exact (congrArg (· + j.val) (off3_val k).1).symm
  | ⟨1, _⟩ => exact ((congrArg (· + c.val) (off3_val k).2).trans (Nat.zero_add _)).symm
theorem vRows_apply (x7 : Vec Ideal S8192x128 .bf16) (k : Fin 16) (j : Fin 512) (c : Fin 128) :
    vRows x7 k (ix2 j c) = x7 (ix2 ⟨512 * k.val + j.val, by have := k.isLt; have := j.isLt; omega⟩ c) := by
  unfold vRows
  refine View.ld_unit_apply_of _ _ _ _ _ _ fun a => ?_
  match a with
  | ⟨0, _⟩ => exact (congrArg (· + j.val) (off4_val k).1).symm
  | ⟨1, _⟩ => exact ((congrArg (· + c.val) (off4_val k).2).trans (Nat.zero_add _)).symm
theorem kChunk_apply (x5 : Vec Ideal S8192x256 .bf16) (k : Fin k0_t3_loop.trips) (j : Fin 512) (c : Fin 256) :
    View.ld x5 (Rect.unit (s := S8192x256) (k0_off5 k) S512x256.size (k0_off5_inb k)) (ix2 j c)
      = x5 (ix2 ⟨512 * k.val + j.val, by have := k.isLt; have := trips_eq; have := j.isLt; omega⟩ c) := by
  refine View.ld_unit_apply_of _ _ _ _ _ _ fun a => ?_
  match a with
  | ⟨0, _⟩ => exact (congrArg (· + j.val) (off5_val k).1).symm
  | ⟨1, _⟩ => exact ((congrArg (· + c.val) (off5_val k).2).trans (Nat.zero_add _)).symm
theorem vChunk_apply (x7 : Vec Ideal S8192x128 .bf16) (k : Fin k0_t3_loop.trips) (j : Fin 512) (c : Fin 128) :
    View.ld x7 (Rect.unit (s := S8192x128) (k0_off6 k) S512x128.size (k0_off6_inb k)) (ix2 j c)
      = x7 (ix2 ⟨512 * k.val + j.val, by have := k.isLt; have := trips_eq; have := j.isLt; omega⟩ c) := by
  refine View.ld_unit_apply_of _ _ _ _ _ _ fun a => ?_
  match a with
  | ⟨0, _⟩ => exact (congrArg (· + j.val) (off6_val k).1).symm
  | ⟨1, _⟩ => exact ((congrArg (· + c.val) (off6_val k).2).trans (Nat.zero_add _)).symm

/-! ## One row of one head

The keys are numbered with the context rows first: `S` the scores, `W` the values in the lane looked at. -/

/-- The row's scores are the reals `S`. -/
structure Scores (o : ℕ) (ho : o ≤ 128) (q : Vec Ideal S1024x128 .bf16) (x4 : Vec Ideal S256x256 .bf16) (x5 : Vec Ideal S8192x256 .bf16)
    (r : Fin 1024) (S : ℕ → ℝ) : Prop where
  ctx : ∀ j : Fin 256, sc o ho q x4 r j = (S j.val : EReal)
  lat : ∀ j : Fin 8192, sc o ho q x5 r j = (S (256 + j.val) : EReal)

theorem sc_chunk {o : ℕ} {ho : o ≤ 128} {q : Vec Ideal S1024x128 .bf16} {x4 : Vec Ideal S256x256 .bf16} {x5 : Vec Ideal S8192x256 .bf16}
    {r : Fin 1024} {S : ℕ → ℝ} (h : Scores o ho q x4 x5 r S) (n : ℕ) (hn : n < 16) (kb : Vec Ideal S512x256 .bf16)
    (hk : ∀ (j : Fin 512) (c : Fin 256), kb (ix2 j c) = x5 (ix2 ⟨512 * n + j.val, by have := j.isLt; omega⟩ c)) (j : Fin 512) :
    sc o ho q kb r j = (S (256 + 512 * n + j.val) : EReal) := by
  have := h.lat ⟨512 * n + j.val, by have := j.isLt; omega⟩
  rw [show 256 + 512 * n + j.val = 256 + (512 * n + j.val) by omega, ← this]
  unfold sc
  exact Finset.sum_congr rfl fun k _ => congrArg _ (hk j _)

/-- The lane's values are `W`. -/
structure Lane (f : {N : ℕ} → Vec Ideal ⟨2, ![N, 128]⟩ .bf16 → Fin N → Fin 128 → EReal) (x6 : Vec Ideal S256x128 .bf16) (x7 : Vec Ideal S8192x128 .bf16)
    (l : Fin 128) (W : ℕ → EReal) : Prop where
  ctx : ∀ j : Fin 256, f x6 j l = W j.val
  lat : ∀ j : Fin 8192, f x7 j l = W (256 + j.val)

theorem sel0_chunk {x6 : Vec Ideal S256x128 .bf16} {x7 : Vec Ideal S8192x128 .bf16} {l : Fin 128} {W : ℕ → EReal}
    (h : Lane @sel0 x6 x7 l W) (n : ℕ) (hn : n < 16) (vb : Vec Ideal S512x128 .bf16)
    (hv : ∀ (j : Fin 512) (c : Fin 128), vb (ix2 j c) = x7 (ix2 ⟨512 * n + j.val, by have := j.isLt; omega⟩ c)) (j : Fin 512) :
    sel0 vb j l = W (256 + 512 * n + j.val) := by
  have := h.lat ⟨512 * n + j.val, by have := j.isLt; omega⟩
  rw [show 256 + 512 * n + j.val = 256 + (512 * n + j.val) by omega, ← this]
  unfold sel0
  rw [hv]
theorem sel1_chunk {x6 : Vec Ideal S256x128 .bf16} {x7 : Vec Ideal S8192x128 .bf16} {l : Fin 128} {W : ℕ → EReal}
    (h : Lane @sel1 x6 x7 l W) (n : ℕ) (hn : n < 16) (vb : Vec Ideal S512x128 .bf16)
    (hv : ∀ (j : Fin 512) (c : Fin 128), vb (ix2 j c) = x7 (ix2 ⟨512 * n + j.val, by have := j.isLt; omega⟩ c)) (j : Fin 512) :
    sel1 vb j l = W (256 + 512 * n + j.val) := by
  have := h.lat ⟨512 * n + j.val, by have := j.isLt; omega⟩
  rw [show 256 + 512 * n + j.val = 256 + (512 * n + j.val) by omega, ← this]
  unfold sel1
  rw [hv]

/-- The weighted sum over the first `n` keys. -/
abbrev part (S : ℕ → ℝ) (c : ℝ) (W : ℕ → EReal) (n : ℕ) : EReal := wsum (fun k : Fin n => S k.val) c fun k : Fin n => W k.val

theorem part_add (S : ℕ → ℝ) (c : ℝ) (W : ℕ → EReal) (n p : ℕ) :
    part S c W (n + p) = part S c W n + ∑ j : Fin p, (((2 : ℝ) ^ (S (n + j.val) - c) : ℝ) : EReal) * W (n + j.val) := by
  unfold part wsum
  rw [Fin.sum_univ_add]
  rfl

theorem exp2_sub (a b : ℝ) : Ideal.exp2 ((a : EReal) - (b : EReal)) = (((2 : ℝ) ^ (a - b) : ℝ) : EReal) := by
  rw [← EReal.coe_sub]; rfl

theorem fix0_eq {q : Vec Ideal S1024x128 .bf16} {b : FVec Ideal S1024x1 .f32} {x4 : Vec Ideal S256x256 .bf16} {x5 : Vec Ideal S8192x256 .bf16}
    {x6 : Vec Ideal S256x128 .bf16} {x7 : Vec Ideal S8192x128 .bf16} {r : Fin 1024} {l : Fin 128} {S : ℕ → ℝ} {W : ℕ → EReal} {β : ℝ}
    (hS : Scores 0 (by omega) q x4 x5 r S) (hW : Lane @sel0 x6 x7 l W) (hb : b (ix2 r 0) = (β : EReal)) (n : ℕ) (hn : n ≤ 16) :
    fix0 q b x4 x5 x6 x7 n hn (ix2 r l) = part S β W (256 + 512 * n) := by
  induction n with
  | zero =>
    show k0_pay5 q b x4 x6 (ix2 r l) = _
    rw [pay5]
    show _ = wsum (fun k : Fin 256 => S k.val) β fun k : Fin 256 => W k.val
    unfold wsum
    refine Finset.sum_congr rfl fun j _ => ?_
    rw [hS.ctx, hb, hW.ctx, exp2_sub]
  | succ n ih =>
    show k0_pay37 q b (fix0 q b x4 x5 x6 x7 n (by omega)) (kRows x5 ⟨n, hn⟩) (vRows x7 ⟨n, hn⟩) (ix2 r l) = _
    rw [pay37, ih, show 256 + 512 * (n + 1) = 256 + 512 * n + 512 by omega, part_add S β W (256 + 512 * n) 512]
    refine congrArg (part S β W (256 + 512 * n) + ·) ?_
    refine Finset.sum_congr rfl fun j _ => ?_
    rw [sc_chunk hS n hn _ (fun j c => kRows_apply x5 ⟨n, hn⟩ j c), hb, sel0_chunk hW n hn _ (fun j c => vRows_apply x7 ⟨n, hn⟩ j c), exp2_sub]

theorem fix1_eq {q : Vec Ideal S1024x128 .bf16} {b : FVec Ideal S1024x1 .f32} {x4 : Vec Ideal S256x256 .bf16} {x5 : Vec Ideal S8192x256 .bf16}
    {x6 : Vec Ideal S256x128 .bf16} {x7 : Vec Ideal S8192x128 .bf16} {r : Fin 1024} {l : Fin 128} {S : ℕ → ℝ} {W : ℕ → EReal} {β : ℝ}
    (hS : Scores 128 (by omega) q x4 x5 r S) (hW : Lane @sel1 x6 x7 l W) (hb : b (ix2 r 0) = (β : EReal)) (n : ℕ) (hn : n ≤ 16) :
    fix1 q b x4 x5 x6 x7 n hn (ix2 r l) = part S β W (256 + 512 * n) := by
  induction n with
  | zero =>
    show k0_pay6 q b x4 x6 (ix2 r l) = _
    rw [pay6]
    show _ = wsum (fun k : Fin 256 => S k.val) β fun k : Fin 256 => W k.val
    unfold wsum
    refine Finset.sum_congr rfl fun j _ => ?_
    rw [hS.ctx, hb, hW.ctx, exp2_sub]
  | succ n ih =>
    show k0_pay40 q b (fix1 q b x4 x5 x6 x7 n (by omega)) (kRows x5 ⟨n, hn⟩) (vRows x7 ⟨n, hn⟩) (ix2 r l) = _
    rw [pay40, ih, show 256 + 512 * (n + 1) = 256 + 512 * n + 512 by omega, part_add S β W (256 + 512 * n) 512]
    refine congrArg (part S β W (256 + 512 * n) + ·) ?_
    refine Finset.sum_congr rfl fun j _ => ?_
    rw [sc_chunk hS n hn _ (fun j c => kRows_apply x5 ⟨n, hn⟩ j c), hb, sel1_chunk hW n hn _ (fun j c => vRows_apply x7 ⟨n, hn⟩ j c), exp2_sub]

/-- The first head's running state: its maximum is some real, its accumulator the sum at that shift, in whatever lane. -/
theorem run0_eq {q q' : Vec Ideal S1024x128 .bf16} {x4 : Vec Ideal S256x256 .bf16} {x5 : Vec Ideal S8192x256 .bf16}
    {x6 : Vec Ideal S256x128 .bf16} {x7 : Vec Ideal S8192x128 .bf16} {r : Fin 1024} {S : ℕ → ℝ}
    (hS : Scores 0 (by omega) q x4 x5 r S) (n : ℕ) (hn : n ≤ 16) :
    ∃ μ : ℝ, (runSt q q' x5 x7 (runInit q q' x4 x6) n).1 (ix2 r 0) = (μ : EReal)
      ∧ ∀ (l : Fin 128) (W : ℕ → EReal), Lane @sel0 x6 x7 l W →
        (runSt q q' x5 x7 (runInit q q' x4 x6) n).2.1 (ix2 r l) = part S μ W (256 + 512 * n) := by
  induction n with
  | zero =>
    obtain ⟨μ, hμ⟩ := fold_max_real Finset.univ (sc 0 (by omega) q x4 r) _ hS.ctx ⟨0, Finset.mem_univ _⟩
    have hm : k0_pay51 q x4 (ix2 r 0) = (μ : EReal) := (pay51 q x4 r).trans hμ
    refine ⟨μ, hm, fun l W hW => ?_⟩
    show k0_pay52 q x4 x6 (ix2 r l) = _
    rw [pay52, hm]
    exact Finset.sum_congr rfl fun j _ => by rw [hS.ctx, hW.ctx, exp2_sub]
  | succ n ih =>
    obtain ⟨μ, hμ, hacc⟩ := ih (by omega)
    have hlt : n < k0_t3_loop.trips := by rw [trips_eq]; omega
    unfold runSt
    rw [dif_pos hlt]
    generalize runSt q q' x5 x7 (runInit q q' x4 x6) n = st at hμ hacc
    have hsc := sc_chunk hS n hn _ (fun j c => kChunk_apply x5 ⟨n, hlt⟩ j c)
    obtain ⟨ν, hν⟩ := fold_max_real Finset.univ _ _ hsc ⟨0, Finset.mem_univ _⟩
    have hm : k0_pay43 q st.1 (View.ld x5 (Rect.unit (s := S8192x256) (k0_off5 ⟨n, hlt⟩) S512x256.size (k0_off5_inb ⟨n, hlt⟩))) (ix2 r 0)
        = ((max μ ν : ℝ) : EReal) := by
      rw [pay43, hμ, hν]; exact (EReal.coe_strictMono.monotone.map_max).symm
    refine ⟨max μ ν, hm, fun l W hW => ?_⟩
    refine (pay44 _ _ _ _ _ _ _).trans ?_
    rw [hm, hμ, hacc l W hW, exp2_sub, wsum_shift, show 256 + 512 * (n + 1) = 256 + 512 * n + 512 by omega, part_add]
    refine congrArg _ (Finset.sum_congr rfl fun j _ => ?_)
    rw [hsc, sel0_chunk hW n hn _ (fun j c => vChunk_apply x7 ⟨n, hlt⟩ j c), exp2_sub]

/-- The second head's. -/
theorem run1_eq {q q' : Vec Ideal S1024x128 .bf16} {x4 : Vec Ideal S256x256 .bf16} {x5 : Vec Ideal S8192x256 .bf16}
    {x6 : Vec Ideal S256x128 .bf16} {x7 : Vec Ideal S8192x128 .bf16} {r : Fin 1024} {S : ℕ → ℝ}
    (hS : Scores 128 (by omega) q' x4 x5 r S) (n : ℕ) (hn : n ≤ 16) :
    ∃ μ : ℝ, (runSt q q' x5 x7 (runInit q q' x4 x6) n).2.2.1 (ix2 r 0) = (μ : EReal)
      ∧ ∀ (l : Fin 128) (W : ℕ → EReal), Lane @sel1 x6 x7 l W →
        (runSt q q' x5 x7 (runInit q q' x4 x6) n).2.2.2 (ix2 r l) = part S μ W (256 + 512 * n) := by
  induction n with
  | zero =>
    obtain ⟨μ, hμ⟩ := fold_max_real Finset.univ (sc 128 (by omega) q' x4 r) _ hS.ctx ⟨0, Finset.mem_univ _⟩
    have hm : k0_pay54 q' x4 (ix2 r 0) = (μ : EReal) := (pay54 q' x4 r).trans hμ
    refine ⟨μ, hm, fun l W hW => ?_⟩
    refine (pay2 q' x4 x6 r l).trans ?_
    rw [hm]
    exact Finset.sum_congr rfl fun j _ => by rw [hS.ctx, hW.ctx, exp2_sub]
  | succ n ih =>
    obtain ⟨μ, hμ, hacc⟩ := ih (by omega)
    have hlt : n < k0_t3_loop.trips := by rw [trips_eq]; omega
    unfold runSt
    rw [dif_pos hlt]
    generalize runSt q q' x5 x7 (runInit q q' x4 x6) n = st at hμ hacc
    have hsc := sc_chunk hS n hn _ (fun j c => kChunk_apply x5 ⟨n, hlt⟩ j c)
    obtain ⟨ν, hν⟩ := fold_max_real Finset.univ _ _ hsc ⟨0, Finset.mem_univ _⟩
    have hm : k0_pay46 q' st.2.2.1 (View.ld x5 (Rect.unit (s := S8192x256) (k0_off5 ⟨n, hlt⟩) S512x256.size (k0_off5_inb ⟨n, hlt⟩))) (ix2 r 0)
        = ((max μ ν : ℝ) : EReal) := by
      rw [pay46, hμ, hν]; exact (EReal.coe_strictMono.monotone.map_max).symm
    refine ⟨max μ ν, hm, fun l W hW => ?_⟩
    refine (pay47 _ _ _ _ _ _ _).trans ?_
    rw [hm, hμ, hacc l W hW, exp2_sub, wsum_shift, show 256 + 512 * (n + 1) = 256 + 512 * n + 512 by omega, part_add]
    refine congrArg _ (Finset.sum_congr rfl fun j _ => ?_)
    rw [hsc, sel1_chunk hW n hn _ (fun j c => vChunk_apply x7 ⟨n, hlt⟩ j c), exp2_sub]

/-! ## The block -/

theorem ole_false {x y : EReal} (h : ¬ x ≤ y) : Scalar.cmpf (F := Ideal) (φ := .f32) .ole x y = 0#1 := by
  show Ideal.cmp .ole x y = 0#1
  unfold Ideal.cmp
  simp [h]

/-- The branch at the fixed shift is taken only where every bound is at most the threshold, so each is a real. -/
theorem bounds_real {x3 : Vec Ideal S1024x256 .bf16} {xs : Vec Ideal S2x8x128 .f32} (h : narrow x3 xs = 1#1)
    (h0 : 0 ≤ n0 xs (ix3 0 0 0)) (h1 : 0 ≤ n1 xs (ix3 0 0 0)) (r : Fin 1024) :
    (∃ β : ℝ, k0_pay65 (q0 x3) (n0 xs) (ix2 r 0) = (β : EReal)) ∧ (∃ β : ℝ, k0_pay66 (q1 x3) (n1 xs) (ix2 r 0) = (β : EReal)) := by
  have hle : k0_pay67 (q0 x3) (q1 x3) (n0 xs) (n1 xs) ≤ Ideal.ofBits .f32 0x42480000#32 := by
    by_contra hc
    have hz : Scalar.cmpf .ole (k0_pay67 (q0 x3) (q1 x3) (n0 xs) (n1 xs)) (Scalar.ofBits .f32 0x42480000#32 : Ideal .f32) = 0#1 := by
      exact ole_false hc
    have hd : Scalar.cmpi .ne (Scalar.extui (0#1 : BitVec 1) : BitVec 32) 0#32 ≠ 1#1 := by decide
    exact hd ((congrArg (fun b => Scalar.cmpi .ne (Scalar.extui b : BitVec 32) 0#32) hz).symm.trans h)
  have ht := lt_of_le_of_lt (le_trans (pay67_ge (q0 x3) (q1 x3) (n0 xs) (n1 xs) r) hle) fifty
  have real_of : ∀ x : EReal, 0 ≤ x → x < ⊤ → ∃ β : ℝ, x = (β : EReal) := fun x hx hx' =>
    ⟨x.toReal, (EReal.coe_toReal hx'.ne (ne_of_gt (lt_of_lt_of_le EReal.bot_lt_zero hx))).symm⟩
  exact ⟨real_of _ (pay65_nonneg _ _ h0 r) (lt_of_le_of_lt (le_max_left _ _) ht), real_of _ (pay66_nonneg _ _ h1 r) (lt_of_le_of_lt (le_max_right _ _) ht)⟩

/-- The stored block at a lane of the first head. -/
theorem outOf_lt {x3 : Vec Ideal S1024x256 .bf16} {x4 : Vec Ideal S256x256 .bf16} {x5 : Vec Ideal S8192x256 .bf16}
    {x6 : Vec Ideal S256x128 .bf16} {x7 : Vec Ideal S8192x128 .bf16} {xs : Vec Ideal S2x8x128 .f32} {r : Fin 1024} {l : Fin 128} {S : ℕ → ℝ} {W : ℕ → EReal}
    (h0 : 0 ≤ n0 xs (ix3 0 0 0)) (h1 : 0 ≤ n1 xs (ix3 0 0 0)) (hl : l.val < 64)
    (hS : Scores 0 (by omega) (q0 x3) x4 x5 r S) (h6 : ∀ j : Fin 256, x6 (ix2 j l) = W j.val) (h7 : ∀ j : Fin 8192, x7 (ix2 j l) = W (256 + j.val)) :
    outOf x3 x4 x5 x6 x7 xs (ix2 r l) = mean (fun k : Fin 8448 => S k.val) 0 (fun k : Fin 8448 => W k.val) := by
  have hW : Lane @sel0 x6 x7 l W := ⟨fun j => by unfold sel0; rw [if_pos hl, h6], fun j => by unfold sel0; rw [if_pos hl, h7]⟩
  have hO : Lane @sel0 x6 x7 ⟨l.val + 64, by omega⟩ (fun _ => 1) :=
    ⟨fun j => by unfold sel0; rw [if_neg (by simp)], fun j => by unfold sel0; rw [if_neg (by simp)]⟩
  unfold outOf
  split
  · next hb =>
    obtain ⟨⟨β, hβ⟩, _⟩ := bounds_real hb h0 h1 r
    unfold fixedOut
    rw [pay3_lt _ _ _ _ hl, fix0_eq hS hW hβ, fix0_eq hS hO hβ]
    exact mean_shift (fun k : Fin 8448 => S k.val) β 0 (fun k : Fin 8448 => W k.val)
  · obtain ⟨μ, _, hacc⟩ := run0_eq (q' := q1 x3) (x6 := x6) (x7 := x7) hS k0_t3_loop.trips (by rw [trips_eq])
    unfold runOut
    rw [pay3_lt _ _ _ _ hl, hacc _ _ hW, hacc _ _ hO, trips_eq]
    exact mean_shift (fun k : Fin 8448 => S k.val) μ 0 (fun k : Fin 8448 => W k.val)

/-- And at a lane of the second. -/
theorem outOf_ge {x3 : Vec Ideal S1024x256 .bf16} {x4 : Vec Ideal S256x256 .bf16} {x5 : Vec Ideal S8192x256 .bf16}
    {x6 : Vec Ideal S256x128 .bf16} {x7 : Vec Ideal S8192x128 .bf16} {xs : Vec Ideal S2x8x128 .f32} {r : Fin 1024} {l : Fin 128} {S : ℕ → ℝ} {W : ℕ → EReal}
    (h0 : 0 ≤ n0 xs (ix3 0 0 0)) (h1 : 0 ≤ n1 xs (ix3 0 0 0)) (hl : ¬ l.val < 64)
    (hS : Scores 128 (by omega) (q1 x3) x4 x5 r S) (h6 : ∀ j : Fin 256, x6 (ix2 j l) = W j.val) (h7 : ∀ j : Fin 8192, x7 (ix2 j l) = W (256 + j.val)) :
    outOf x3 x4 x5 x6 x7 xs (ix2 r l) = mean (fun k : Fin 8448 => S k.val) 0 (fun k : Fin 8448 => W k.val) := by
  have hlt := l.isLt
  have hW : Lane @sel1 x6 x7 l W := ⟨fun j => by unfold sel1; rw [if_neg hl, h6], fun j => by unfold sel1; rw [if_neg hl, h7]⟩
  have hO : Lane @sel1 x6 x7 ⟨l.val - 64, by omega⟩ (fun _ => 1) :=
    ⟨fun j => by unfold sel1; rw [if_pos (by show l.val - 64 < 64; omega)], fun j => by unfold sel1; rw [if_pos (by show l.val - 64 < 64; omega)]⟩
  unfold outOf
  split
  · next hb =>
    obtain ⟨_, β, hβ⟩ := bounds_real hb h0 h1 r
    unfold fixedOut
    rw [pay3_ge _ _ _ _ hl, fix1_eq hS hW hβ, fix1_eq hS hO hβ]
    exact mean_shift (fun k : Fin 8448 => S k.val) β 0 (fun k : Fin 8448 => W k.val)
  · obtain ⟨μ, _, hacc⟩ := run1_eq (q := q0 x3) (x6 := x6) (x7 := x7) hS k0_t3_loop.trips (by rw [trips_eq])
    unfold runOut
    rw [pay3_ge _ _ _ _ hl, hacc _ _ hW, hacc _ _ hO, trips_eq]
    exact mean_shift (fun k : Fin 8448 => S k.val) μ 0 (fun k : Fin 8448 => W k.val)

end Cert.KernelIdeal.Att
-- ==== Proof.Attn.lean ====
module

public import proofs.«01_k».proof.Proof.Softmax
public import Idealize.ShloMosaic.Lib.Pointwise
public import Idealize.ShloMosaic.Lib.ValueIdx

@[expose] public section

noncomputable section

namespace Cert.Soft

open Idealize.ShloMosaic
open scoped BigOperators

/-! # The attention as a formula over the whole arrays -/

/-- An array's entry at two numbers; outside the array, zero. -/
def rd {A B : ℕ} (x : (⟨2, ![A, B]⟩ : Shape).Idx → EReal) (i j : ℕ) : EReal :=
  if h : i < A ∧ j < B then x (ix2 ⟨i, h.1⟩ ⟨j, h.2⟩) else 0

theorem rd_of {A B : ℕ} (x : (⟨2, ![A, B]⟩ : Shape).Idx → EReal) (y : (⟨2, ![A, B]⟩ : Shape).Idx) (i j : ℕ)
    (hi : (y 0).val = i) (hj : (y 1).val = j) : x y = rd x i j := by
  subst hi hj
  unfold rd
  rw [dif_pos ⟨(y 0).isLt, (y 1).isLt⟩]
  refine congrArg x (funext fun a => Fin.ext ?_)
  match a with
  | ⟨0, _⟩ => rfl
  | ⟨1, _⟩ => rfl

/-- Every entry of the first `n` rows is a real number. -/
def RealRows {A B : ℕ} (n : ℕ) (x : (⟨2, ![A, B]⟩ : Shape).Idx → EReal) : Prop :=
  ∀ y : (⟨2, ![A, B]⟩ : Shape).Idx, (y 0).val < n → ∃ r : ℝ, x y = (r : EReal)

theorem RealRows.rd {A B n : ℕ} {x : (⟨2, ![A, B]⟩ : Shape).Idx → EReal} (h : RealRows n x) {i : ℕ} (hi : i < n) (j : ℕ) :
    ∃ r : ℝ, Soft.rd x i j = (r : EReal) := by
  unfold Soft.rd
  split
  · exact h _ hi
  · exact ⟨0, rfl⟩

/-- The array row of key `j` of batch `b`: the context rows come first, then the latents. -/
def keyRow (b j : ℕ) : ℕ := if j < 256 then 16384 + 256 * b + j else 8192 * b + (j - 256)

/-- The score of query row `R` against key `j`, in head `h`. -/
def score (q k : (⟨2, ![16896, 2048]⟩ : Shape).Idx → EReal) (R h j : ℕ) : EReal :=
  ∑ i : Fin 128, rd q R (128 * h + i.val) * rd k (keyRow (R / 8192) j) (128 * h + i.val)

theorem exists_sum {n : ℕ} (f : Fin n → EReal) (hf : ∀ i, ∃ r : ℝ, f i = (r : EReal)) : ∃ r : ℝ, ∑ i, f i = (r : EReal) := by
  choose g hg using hf
  refine ⟨∑ i, g i, ?_⟩
  rw [Finset.sum_congr rfl fun i _ => hg i]
  induction (Finset.univ : Finset (Fin n)) using Finset.induction_on with
  | empty => simp
  | insert x T hx ih => rw [Finset.sum_insert hx, Finset.sum_insert hx, ih, EReal.coe_add]

theorem score_real {q k : (⟨2, ![16896, 2048]⟩ : Shape).Idx → EReal} (hq : RealRows 16384 q) (hk : RealRows 16896 k)
    {R : ℕ} (hR : R < 16384) (h j : ℕ) (hj : j < 8448) : score q k R h j = ((score q k R h j).toReal : EReal) := by
  have hkr : keyRow (R / 8192) j < 16896 := by unfold keyRow; split <;> omega
  obtain ⟨r, hr⟩ : ∃ r : ℝ, score q k R h j = (r : EReal) := exists_sum _ fun i => by
    obtain ⟨a, ha⟩ := hq.rd hR (128 * h + i.val)
    obtain ⟨b, hb⟩ := hk.rd hkr (128 * h + i.val)
    exact ⟨a * b, by rw [ha, hb]; rfl⟩
  rw [hr]; rfl

/-- The attention's entry at row `R`, column `C`: the mean of the column's values, weighted by two to the scores. -/
def attn (q k : (⟨2, ![16896, 2048]⟩ : Shape).Idx → EReal) (v : (⟨2, ![16896, 1024]⟩ : Shape).Idx → EReal) (R C : ℕ) : EReal :=
  mean (fun j : Fin 8448 => (score q k R (C / 64) j.val).toReal) 0 (fun j : Fin 8448 => rd v (keyRow (R / 8192) j.val) C)

end Cert.Soft

end
-- ==== Proof.KernelIdealRun.lean ====
module

public import proofs.«01_k».proof.Proof.KernelIdealPure
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zero2 : (![0, 0] : Fin 2 → Nat) = fun _ => 0 := by funext a; fin_cases a <;> rfl

/-- Loop 1's carried value before trip `n` is the largest squared norm so far. -/
theorem st1_eq (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (hc1 : k0_cond1 i = 1#1)
    (x4 : Vec F S256x256 .bf16) (x5 : Vec F S8192x256 .bf16) (n : ℕ) (hn : n ≤ k0_t1_loop.trips) :
    st_k0_t1 (F := F) 𝒱 c bd i arg3 harg3 arg4 harg4 arg5 harg5 arg6 harg6 arg7 harg7 arg8 harg8 arg9 harg9 hc1 (harg5.unread x5) (nrm0 i hc1 x4 x5 0) n = nrm0 i hc1 x4 x5 n := by
  induction n with
  | zero => rfl
  | succ n ih =>
    have h : n < k0_t1_loop.trips := hn
    rw [show n + 1 = (⟨n, h⟩ : Fin k0_t1_loop.trips).val + 1 from rfl, st_k0_t1_succ, ih (by omega)]
    rw [nrm0, dif_pos h]
    unfold tripR_k0_t1 trip_k0_t1
    dsimp only
    sl_unfold_run_names
    simp only [View.readAt_eq_ld, Memref.IsWhole.read_unread]

/-- Loop 2's carried value before trip `n` is the largest squared norm so far. -/
theorem st2_eq (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (hc1 : k0_cond1 i = 1#1)
    (x4 : Vec F S256x256 .bf16) (x5 : Vec F S8192x256 .bf16) (n : ℕ) (hn : n ≤ k0_t2_loop.trips) :
    st_k0_t2 (F := F) 𝒱 c bd i arg3 harg3 arg4 harg4 arg5 harg5 arg6 harg6 arg7 harg7 arg8 harg8 arg9 harg9 hc1 (harg5.unread x5) (nrm1 i hc1 x4 x5 0) n = nrm1 i hc1 x4 x5 n := by
  induction n with
  | zero => rfl
  | succ n ih =>
    have h : n < k0_t2_loop.trips := hn
    rw [show n + 1 = (⟨n, h⟩ : Fin k0_t2_loop.trips).val + 1 from rfl, st_k0_t2_succ, ih (by omega)]
    rw [nrm1, dif_pos h]
    unfold tripR_k0_t2 trip_k0_t2
    dsimp only
    sl_unfold_run_names
    simp only [View.readAt_eq_ld, Memref.IsWhole.read_unread]

/-- The running-maximum loop's carried value before trip `n`. -/
theorem st3_eq (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (v0 v1 : Vec F S1024x128 .bf16)
    (x5 : Vec F S8192x256 .bf16) (x7 : Vec F S8192x128 .bf16) (init : RunState F) (n : ℕ) (hn : n ≤ k0_t3_loop.trips) :
    st_k0_t3 (F := F) 𝒱 c bd i arg3 harg3 arg4 harg4 arg5 harg5 arg6 harg6 arg7 harg7 arg8 harg8 arg9 harg9 v0 v1 (harg5.unread x5) (harg7.unread x7) init n = runSt v0 v1 x5 x7 init n := by
  induction n with
  | zero => rfl
  | succ n ih =>
    have h : n < k0_t3_loop.trips := hn
    rw [show n + 1 = (⟨n, h⟩ : Fin k0_t3_loop.trips).val + 1 from rfl, st_k0_t3_succ, ih (by omega)]
    rw [runSt, dif_pos h]
    unfold tripR_k0_t3 trip_k0_t3
    dsimp only
    sl_unfold_run_names
    simp only [View.readAt_eq_ld, Memref.IsWhole.read_unread]
    rfl

/-- The loops' carried values at the end. -/
theorem st1_fin (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (hc1 : k0_cond1 i = 1#1)
    (x4 : Vec F S256x256 .bf16) (x5 : Vec F S8192x256 .bf16) :
    st_k0_t1 (F := F) 𝒱 c bd i arg3 harg3 arg4 harg4 arg5 harg5 arg6 harg6 arg7 harg7 arg8 harg8 arg9 harg9 hc1 (harg5.unread x5) (k0_pay59 x4) (Scf.trips k0_t1_loop.lb k0_t1_loop.ub k0_t1_loop.st) = nrm0 i hc1 x4 x5 k0_t1_loop.trips :=
  st1_eq 𝒱 c bd i arg3 harg3 arg4 harg4 arg5 harg5 arg6 harg6 arg7 harg7 arg8 harg8 arg9 harg9 hc1 x4 x5 _ le_rfl
theorem st2_fin (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (hc1 : k0_cond1 i = 1#1)
    (x4 : Vec F S256x256 .bf16) (x5 : Vec F S8192x256 .bf16) :
    st_k0_t2 (F := F) 𝒱 c bd i arg3 harg3 arg4 harg4 arg5 harg5 arg6 harg6 arg7 harg7 arg8 harg8 arg9 harg9 hc1 (harg5.unread x5) (k0_pay62 x4) (Scf.trips k0_t2_loop.lb k0_t2_loop.ub k0_t2_loop.st) = nrm1 i hc1 x4 x5 k0_t2_loop.trips :=
  st2_eq 𝒱 c bd i arg3 harg3 arg4 harg4 arg5 harg5 arg6 harg6 arg7 harg7 arg8 harg8 arg9 harg9 hc1 x4 x5 _ le_rfl
theorem st3_fin (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole) (v0 v1 : Vec F S1024x128 .bf16)
    (x5 : Vec F S8192x256 .bf16) (x7 : Vec F S8192x128 .bf16) (init : RunState F) :
    st_k0_t3 (F := F) 𝒱 c bd i arg3 harg3 arg4 harg4 arg5 harg5 arg6 harg6 arg7 harg7 arg8 harg8 arg9 harg9 v0 v1 (harg5.unread x5) (harg7.unread x7) init (Scf.trips k0_t3_loop.lb k0_t3_loop.ub k0_t3_loop.st)
      = runSt v0 v1 x5 x7 init k0_t3_loop.trips :=
  st3_eq 𝒱 c bd i arg3 harg3 arg4 harg4 arg5 harg5 arg6 harg6 arg7 harg7 arg8 harg8 arg9 harg9 v0 v1 x5 x7 init _ le_rfl

/-- The key norms read back from the planes just written. -/
theorem readCov_n0 {sp : Space} (v : View sig .tc sp S2x8x128 .f32) (i : grid0.Coords) (hc1 : k0_cond1 i = 1#1) (x4 : Vec F S256x256 .bf16) (x5 : Vec F S8192x256 .bf16) :
    v.readCov (Val := Elt F) [⟨Rect.unit (s := S2x8x128) ![1, 0, 0] S1x8x128.size inb_S2x8x128_S1x8x128_1_0_0, k0_pay64 (nrm1 i hc1 x4 x5 k0_t2_loop.trips)⟩,
     ⟨Rect.unit (s := S2x8x128) ![0, 0, 0] S1x8x128.size inb_S2x8x128_S1x8x128_0_0_0, k0_pay61 (nrm0 i hc1 x4 x5 k0_t1_loop.trips)⟩]
      (Rect.unit (s := S2x8x128) ![0, 0, 0] S1x1x1.size inb_S2x8x128_S1x1x1_0_0_0).toLoadRect = n0 (scr i hc1 x4 x5) := by
  rw [View.readCov_eq_canon']; rfl
theorem readCov_n1 {sp : Space} (v : View sig .tc sp S2x8x128 .f32) (i : grid0.Coords) (hc1 : k0_cond1 i = 1#1) (x4 : Vec F S256x256 .bf16) (x5 : Vec F S8192x256 .bf16) :
    v.readCov (Val := Elt F) [⟨Rect.unit (s := S2x8x128) ![1, 0, 0] S1x8x128.size inb_S2x8x128_S1x8x128_1_0_0, k0_pay64 (nrm1 i hc1 x4 x5 k0_t2_loop.trips)⟩,
     ⟨Rect.unit (s := S2x8x128) ![0, 0, 0] S1x8x128.size inb_S2x8x128_S1x8x128_0_0_0, k0_pay61 (nrm0 i hc1 x4 x5 k0_t1_loop.trips)⟩]
      (Rect.unit (s := S2x8x128) ![1, 0, 0] S1x1x1.size inb_S2x8x128_S1x1x1_1_0_0).toLoadRect = n1 (scr i hc1 x4 x5) := by
  rw [View.readCov_eq_canon']; rfl
/-- A read of a whole block. -/
theorem whole_x4 (x4 : Vec F S256x256 .bf16) (h) : View.ld x4 (Rect.unit (s := S256x256) ![0, 0] S256x256.size h) = x4 := View.ld_unit_zero zero2 h x4
theorem whole_x6 (x6 : Vec F S256x128 .bf16) (h) : View.ld x6 (Rect.unit (s := S256x128) ![0, 0] S256x128.size h) = x6 := View.ld_unit_zero zero2 h x6
/-- The two planes of the key norms cover them. -/
theorem scr_cover (w1 w0 : Vec F S1x8x128 .f32) (y : S2x8x128.Idx) :
    ∃ p ∈ ([⟨Rect.unit (s := S2x8x128) ![1, 0, 0] S1x8x128.size inb_S2x8x128_S1x8x128_1_0_0, w1⟩,
      ⟨Rect.unit (s := S2x8x128) ![0, 0, 0] S1x8x128.size inb_S2x8x128_S1x8x128_0_0_0, w0⟩] : List (View.Piece (Elt F) S2x8x128 .f32)), y ∈ p.1.set := by
  have h0 : (y 0).val < 2 := (y 0).isLt
  have h1 : (y 1).val < 8 := (y 1).isLt
  have h2 : (y 2).val < 128 := (y 2).isLt
  by_cases h : (y 0).val = 0
  · refine ⟨_, List.mem_cons_of_mem _ (List.mem_singleton_self _), ?_⟩
    rw [Rect.mem_set_unit]
    intro a
    fin_cases a
    · exact ⟨Nat.zero_le _, by show (y 0).val < 0 + 1; omega⟩
    · exact ⟨Nat.zero_le _, by show (y 1).val < 0 + 8; omega⟩
    · exact ⟨Nat.zero_le _, by show (y 2).val < 0 + 128; omega⟩
  · refine ⟨_, List.mem_cons_self, ?_⟩
    rw [Rect.mem_set_unit]
    intro a
    fin_cases a
    · exact ⟨by show 1 ≤ (y 0).val; omega, by show (y 0).val < 1 + 1; omega⟩
    · exact ⟨Nat.zero_le _, by show (y 1).val < 0 + 8; omega⟩
    · exact ⟨Nat.zero_le _, by show (y 2).val < 0 + 128; omega⟩

/-- The two heads' queries, at literal offsets. -/
theorem lit_q0 (x3 : Vec F S1024x256 .bf16) (h) : View.ld x3 (Rect.unit (s := S1024x256) ![0, 0] ![1024, 128] h) = q0 x3 := rfl
theorem lit_q1 (x3 : Vec F S1024x256 .bf16) (h) : View.ld x3 (Rect.unit (s := S1024x256) ![0, 128] ![1024, 128] h) = q1 x3 := rfl

/-! A step of each head, argument by argument. -/

theorem cg37 {v0 : Vec F S1024x128 .bf16} {b : FVec F S1024x1 .f32} {a a' : FVec F S1024x128 .f32} {k k' : Vec F S512x256 .bf16} {v v' : Vec F S512x128 .bf16}
    (ha : a = a') (hk : k = k') (hv : v = v') : k0_pay37 v0 b a k v = k0_pay37 v0 b a' k' v' := by subst ha hk hv; rfl
theorem cg40 {v0 : Vec F S1024x128 .bf16} {b : FVec F S1024x1 .f32} {a a' : FVec F S1024x128 .f32} {k k' : Vec F S512x256 .bf16} {v v' : Vec F S512x128 .bf16}
    (ha : a = a') (hk : k = k') (hv : v = v') : k0_pay40 v0 b a k v = k0_pay40 v0 b a' k' v' := by subst ha hk hv; rfl
theorem cg5 {v0 : Vec F S1024x128 .bf16} {b : FVec F S1024x1 .f32} {k k' : Vec F S256x256 .bf16} {v v' : Vec F S256x128 .bf16}
    (hk : k = k') (hv : v = v') : k0_pay5 v0 b k v = k0_pay5 v0 b k' v' := by subst hk hv; rfl
theorem cg6 {v0 : Vec F S1024x128 .bf16} {b : FVec F S1024x1 .f32} {k k' : Vec F S256x256 .bf16} {v v' : Vec F S256x128 .bf16}
    (hk : k = k') (hv : v = v') : k0_pay6 v0 b k v = k0_pay6 v0 b k' v' := by subst hk hv; rfl

/-! The chunks of the fixed-shift branch, each the one step. -/

theorem ch9 (v0 v1 : Vec F S1024x128 .bf16) (b b1 : FVec F S1024x1 .f32) (a a1 : FVec F S1024x128 .f32) (k k2 : Vec F S512x256 .bf16) (v v2 : Vec F S512x128 .bf16) : k0_pay9 v0 b a v (k0_pay7 v0 b k) (iota .tc S512x128 32 [1] iota_S512x128_d1_w32) k2 v2 = k0_pay37 v0 b (k0_pay37 v0 b a k v) k2 v2 := rfl
theorem ch11 (v0 v1 : Vec F S1024x128 .bf16) (b b1 : FVec F S1024x1 .f32) (a a1 : FVec F S1024x128 .f32) (k k2 : Vec F S512x256 .bf16) (v v2 : Vec F S512x128 .bf16) : k0_pay11 v0 b a k v = k0_pay37 v0 b a k v := rfl
theorem ch13 (v0 v1 : Vec F S1024x128 .bf16) (b b1 : FVec F S1024x1 .f32) (a a1 : FVec F S1024x128 .f32) (k k2 : Vec F S512x256 .bf16) (v v2 : Vec F S512x128 .bf16) : k0_pay13 v0 b a k v = k0_pay37 v0 b a k v := rfl
theorem ch18 (v0 v1 : Vec F S1024x128 .bf16) (b b1 : FVec F S1024x1 .f32) (a a1 : FVec F S1024x128 .f32) (k k2 : Vec F S512x256 .bf16) (v v2 : Vec F S512x128 .bf16) : k0_pay18 v0 b a v (k0_pay15 v0 b k) k0_pay16 (Scalar.ofBits .bf16 0x3F80#16 : F .bf16) k2 v2 = k0_pay37 v0 b (k0_pay37 v0 b a k v) k2 v2 := rfl
theorem ch21 (v0 v1 : Vec F S1024x128 .bf16) (b b1 : FVec F S1024x1 .f32) (a a1 : FVec F S1024x128 .f32) (k k2 : Vec F S512x256 .bf16) (v v2 : Vec F S512x128 .bf16) : k0_pay21 v0 b a k v = k0_pay37 v0 b a k v := rfl
theorem ch23 (v0 v1 : Vec F S1024x128 .bf16) (b b1 : FVec F S1024x1 .f32) (a a1 : FVec F S1024x128 .f32) (k k2 : Vec F S512x256 .bf16) (v v2 : Vec F S512x128 .bf16) : k0_pay23 v0 b a k v = k0_pay37 v0 b a k v := rfl
theorem ch27 (v0 v1 : Vec F S1024x128 .bf16) (b b1 : FVec F S1024x1 .f32) (a a1 : FVec F S1024x128 .f32) (k k2 : Vec F S512x256 .bf16) (v v2 : Vec F S512x128 .bf16) : k0_pay27 v0 b a (k0_pay25 v0 b k v) k2 v2 = k0_pay37 v0 b (k0_pay37 v0 b a k v) k2 v2 := rfl
theorem ch30 (v0 v1 : Vec F S1024x128 .bf16) (b b1 : FVec F S1024x1 .f32) (a a1 : FVec F S1024x128 .f32) (k k2 : Vec F S512x256 .bf16) (v v2 : Vec F S512x128 .bf16) : k0_pay30 v0 b a k v = k0_pay37 v0 b a k v := rfl
theorem ch35 (v0 v1 : Vec F S1024x128 .bf16) (b b1 : FVec F S1024x1 .f32) (a a1 : FVec F S1024x128 .f32) (k k2 : Vec F S512x256 .bf16) (v v2 : Vec F S512x128 .bf16) : k0_pay35 v0 b a v (k0_pay32 v0 k) (k0_pay33 b) k2 v2 = k0_pay37 v0 b (k0_pay37 v0 b a k v) k2 v2 := rfl
theorem ch39 (v0 v1 : Vec F S1024x128 .bf16) (b b1 : FVec F S1024x1 .f32) (a a1 : FVec F S1024x128 .f32) (k k2 : Vec F S512x256 .bf16) (v v2 : Vec F S512x128 .bf16) : k0_pay39 v0 b a k v = k0_pay37 v0 b a k v := rfl
theorem ch8 (v0 v1 : Vec F S1024x128 .bf16) (b b1 : FVec F S1024x1 .f32) (a a1 : FVec F S1024x128 .f32) (k k2 : Vec F S512x256 .bf16) (v v2 : Vec F S512x128 .bf16) : k0_pay8 v1 b a k v = k0_pay40 v1 b a k v := rfl
theorem ch12 (v0 v1 : Vec F S1024x128 .bf16) (b b1 : FVec F S1024x1 .f32) (a a1 : FVec F S1024x128 .f32) (k k2 : Vec F S512x256 .bf16) (v v2 : Vec F S512x128 .bf16) : k0_pay12 v1 b a v (k0_pay10 v1 b k) k2 v2 = k0_pay40 v1 b (k0_pay40 v1 b a k v) k2 v2 := rfl
theorem ch14 (v0 v1 : Vec F S1024x128 .bf16) (b b1 : FVec F S1024x1 .f32) (a a1 : FVec F S1024x128 .f32) (k k2 : Vec F S512x256 .bf16) (v v2 : Vec F S512x128 .bf16) : k0_pay14 v1 b a k v = k0_pay40 v1 b a k v := rfl
theorem ch17 (v0 v1 : Vec F S1024x128 .bf16) (b b1 : FVec F S1024x1 .f32) (a a1 : FVec F S1024x128 .f32) (k k2 : Vec F S512x256 .bf16) (v v2 : Vec F S512x128 .bf16) : k0_pay17 v1 b a k v = k0_pay40 v1 b a k v := rfl
theorem ch22 (v0 v1 : Vec F S1024x128 .bf16) (b b1 : FVec F S1024x1 .f32) (a a1 : FVec F S1024x128 .f32) (k k2 : Vec F S512x256 .bf16) (v v2 : Vec F S512x128 .bf16) : k0_pay22 v1 b a v (k0_pay19 v1 b k) k0_pay20 k2 v2 = k0_pay40 v1 b (k0_pay40 v1 b a k v) k2 v2 := rfl
theorem ch24 (v0 v1 : Vec F S1024x128 .bf16) (b b1 : FVec F S1024x1 .f32) (a a1 : FVec F S1024x128 .f32) (k k2 : Vec F S512x256 .bf16) (v v2 : Vec F S512x128 .bf16) : k0_pay24 v1 b a k v = k0_pay40 v1 b a k v := rfl
theorem ch26 (v0 v1 : Vec F S1024x128 .bf16) (b b1 : FVec F S1024x1 .f32) (a a1 : FVec F S1024x128 .f32) (k k2 : Vec F S512x256 .bf16) (v v2 : Vec F S512x128 .bf16) : k0_pay26 v1 b a k v = k0_pay40 v1 b a k v := rfl
theorem ch31 (v0 v1 : Vec F S1024x128 .bf16) (b b1 : FVec F S1024x1 .f32) (a a1 : FVec F S1024x128 .f32) (k k2 : Vec F S512x256 .bf16) (v v2 : Vec F S512x128 .bf16) : k0_pay31 v1 b a (k0_pay28 v1 b k) (k0_pay29 v) (constant S1024x128 .f32 0x00000000#32) k2 v2 = k0_pay40 v1 b (k0_pay40 v1 b a k v) k2 v2 := rfl
theorem ch34 (v0 v1 : Vec F S1024x128 .bf16) (b b1 : FVec F S1024x1 .f32) (a a1 : FVec F S1024x128 .f32) (k k2 : Vec F S512x256 .bf16) (v v2 : Vec F S512x128 .bf16) : k0_pay34 v1 b a k v = k0_pay40 v1 b a k v := rfl
theorem ch38 (v0 v1 : Vec F S1024x128 .bf16) (b b1 : FVec F S1024x1 .f32) (a a1 : FVec F S1024x128 .f32) (k k2 : Vec F S512x256 .bf16) (v v2 : Vec F S512x128 .bf16) : k0_pay38 v1 b a v (k0_pay36 v1 k) k2 v2 = k0_pay40 v1 b (k0_pay40 v1 b a k v) k2 v2 := rfl
theorem ch1 (v0 v1 : Vec F S1024x128 .bf16) (b b1 : FVec F S1024x1 .f32) (a a1 : FVec F S1024x128 .f32) (k k2 : Vec F S512x256 .bf16) (v v2 : Vec F S512x128 .bf16) : k0_pay1 v1 b1 a a1 k v (k0_pay41 v0 b k) (iota .tc S512x128 32 [1] iota_S512x128_d1_w32) = k0_pay3 (k0_pay37 v0 b a k v) (k0_pay40 v1 b1 a1 k v) := rfl

/-- A written whole block reads as its payload. -/
theorem out_store (M : Memref sig .tc .vmem S1024x128 .bf16) (h : M.IsWhole) (f : M.view.ty.Contents (Elt F)) (w : Vec F S1024x128 .bf16) :
    M.view.writes (Elt F) f [⟨Rect.unit (s := S1024x128) ![0, 0] S1024x128.size inb_S1024x128_S1024x128_0_0, w⟩] = h.unread w := by
  rw [← h.unread_read (M.view.writes (Elt F) f _), View.read_writes_eq_canon _ _ _ (fun y => ⟨_, List.mem_singleton_self _, View.mem_set_unit_zero zero2 inb_S1024x128_S1024x128_0_0 y⟩),
    View.canon_unit_zero zero2]

set_option maxHeartbeats 4000000 in
/-- THE BODY at a point where the key norms are read back: it leaves the blocks as they were, the block computed in the output and the key norms in the scratch. -/
theorem run_later (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole)
    (hc1 : ¬ k0_cond1 i = 1#1) (x3 : Vec F S1024x256 .bf16) (x4 : Vec F S256x256 .bf16) (x5 : Vec F S8192x256 .bf16) (x6 : Vec F S256x128 .bf16) (x7 : Vec F S8192x128 .bf16) (xo : Vec F S1024x128 .bf16) (xs : Vec F S2x8x128 .f32)
    (E : Set ℕ) (Q : PUnit → sProp 𝕄) :
    iprop((arg3.view.loc (c : Thread nD τ) ↦[arg3.view.set]{fullShare} harg3.unread x3) ∗ (arg4.view.loc (c : Thread nD τ) ↦[arg4.view.set]{fullShare} harg4.unread x4)
      ∗ (arg5.view.loc (c : Thread nD τ) ↦[arg5.view.set]{fullShare} harg5.unread x5) ∗ (arg6.view.loc (c : Thread nD τ) ↦[arg6.view.set]{fullShare} harg6.unread x6)
      ∗ (arg7.view.loc (c : Thread nD τ) ↦[arg7.view.set]{fullShare} harg7.unread x7) ∗ (arg8.view.loc (c : Thread nD τ) ↦[arg8.view.set]{fullShare} harg8.unread xo)
      ∗ (arg9.view.loc (c : Thread nD τ) ↦[arg9.view.set]{fullShare} harg9.unread xs)
      ∗ ((iprop((arg3.view.loc (c : Thread nD τ) ↦[arg3.view.set]{fullShare} harg3.unread x3) ∗ (arg4.view.loc (c : Thread nD τ) ↦[arg4.view.set]{fullShare} harg4.unread x4)
      ∗ (arg5.view.loc (c : Thread nD τ) ↦[arg5.view.set]{fullShare} harg5.unread x5) ∗ (arg6.view.loc (c : Thread nD τ) ↦[arg6.view.set]{fullShare} harg6.unread x6)
      ∗ (arg7.view.loc (c : Thread nD τ) ↦[arg7.view.set]{fullShare} harg7.unread x7) ∗ (∃ f8, ⌜f8 = harg8.unread (outOf x3 x4 x5 x6 x7 xs)⌝ ∗ (arg8.view.loc (c : Thread nD τ) ↦[arg8.view.set]{fullShare} f8))
      ∗ (∃ f9, ⌜f9 = harg9.unread xs⌝ ∗ (arg9.view.loc (c : Thread nD τ) ↦[arg9.view.set]{fullShare} f9)))) -∗ Q ⟨⟩))
    ⊢ wp frame (wpE (defs₀ (F := F)) 𝒱 (c : Thread nD τ) bd) E (cc0_attention (F := F) i arg3 harg3 arg4 harg4 arg5 harg5 arg6 harg6 arg7 harg7 arg8 harg8 arg9 harg9) Q := by
  iintro ⟨H3, H4, H5, H6, H7, H8, H9, Hk⟩
  simp only [Gen.cc0_attention_eq_skeleton]
  unfold cc0_attention_skel
  sl_exec_parts (disch := exact hc1)
  split
  · rename_i hb
    sl_exec_parts
    sl_step
    iapply Hk
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      rw [out_store]
      refine congrArg harg8.unread ?_
      sl_unfold_run_names
      simp (config := { proj := false }) only [View.readAt_eq_ld, Memref.IsWhole.read_unread, whole_x4, whole_x6]
      revert hb
      sl_unfold_run_names
      simp (config := { proj := false }) only [View.readAt_eq_ld, Memref.IsWhole.read_unread, whole_x4, whole_x6]
      intro hb
      unfold outOf narrow
      rw [if_pos hb]
      generalize k0_pay65 (q0 x3) (n0 xs) = b0
      generalize k0_pay66 (q1 x3) (n1 xs) = b1
      simp only [lit_q0, lit_q1]
      generalize q0 x3 = v0
      generalize q1 x3 = v1
      simp only [ch9, ch11, ch13, ch18, ch21, ch23, ch27, ch30, ch35, ch39, ch8, ch12, ch14, ch17, ch22, ch24, ch26, ch31, ch34, ch38, ch1]
      simp only [fixedOut, fix0, fix1]
      refine (ch1 (v0 := v0) (v1 := v1) (b := b0) (b1 := b1) (k2 := kRows x5 0) (v2 := vRows x7 0) ..).trans ?_
      refine congrArg₂ k0_pay3 ?_ ?_
      · iterate 14 refine cg37 ?_ rfl rfl
        refine (ch9 (v0 := v0) (v1 := v1) (b := b0) (b1 := b1) (a1 := k0_pay5 v0 b0 x4 x6) ..).trans ?_
        refine cg37 ?_ rfl rfl
        refine cg37 ?_ rfl rfl
        rfl
      · iterate 16 refine cg40 ?_ rfl rfl
        rfl
    · iexists _; isplitr; swap; · iexact H9
      ipureintro
      rfl
  · rename_i hb
    sl_exec_parts
    sl_step
    iapply Hk
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      rw [out_store]
      refine congrArg harg8.unread ?_
      sl_unfold_run_names
      simp (config := { proj := false }) only [View.readAt_eq_ld, Memref.IsWhole.read_unread, whole_x4, whole_x6, st3_fin]
      revert hb
      sl_unfold_run_names
      simp (config := { proj := false }) only [View.readAt_eq_ld, Memref.IsWhole.read_unread, whole_x4, whole_x6, st3_fin]
      intro hb
      unfold outOf narrow
      rw [if_neg hb]
      rfl
    · iexists _; isplitr; swap; · iexact H9
      ipureintro
      rfl

set_option maxHeartbeats 4000000 in
/-- THE BODY at a point where the key norms are computed: it leaves the blocks as they were, the block computed in the output and the key norms in the scratch. -/
theorem run_first (𝒱 : Variants) (c : Dev nD) (bd : Option 𝒱.V) (i : grid0.Coords) (arg3 : Memref sig .tc .vmem S1024x256 .bf16) (harg3 : arg3.IsWhole) (arg4 : Memref sig .tc .vmem S256x256 .bf16) (harg4 : arg4.IsWhole) (arg5 : Memref sig .tc .vmem S8192x256 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S1024x128 .bf16) (harg8 : arg8.IsWhole) (arg9 : Memref sig .tc .vmem S2x8x128 .f32) (harg9 : arg9.IsWhole)
    (hc1 : k0_cond1 i = 1#1) (x3 : Vec F S1024x256 .bf16) (x4 : Vec F S256x256 .bf16) (x5 : Vec F S8192x256 .bf16) (x6 : Vec F S256x128 .bf16) (x7 : Vec F S8192x128 .bf16) (xo : Vec F S1024x128 .bf16) (xs : Vec F S2x8x128 .f32)
    (E : Set ℕ) (Q : PUnit → sProp 𝕄) :
    iprop((arg3.view.loc (c : Thread nD τ) ↦[arg3.view.set]{fullShare} harg3.unread x3) ∗ (arg4.view.loc (c : Thread nD τ) ↦[arg4.view.set]{fullShare} harg4.unread x4)
      ∗ (arg5.view.loc (c : Thread nD τ) ↦[arg5.view.set]{fullShare} harg5.unread x5) ∗ (arg6.view.loc (c : Thread nD τ) ↦[arg6.view.set]{fullShare} harg6.unread x6)
      ∗ (arg7.view.loc (c : Thread nD τ) ↦[arg7.view.set]{fullShare} harg7.unread x7) ∗ (arg8.view.loc (c : Thread nD τ) ↦[arg8.view.set]{fullShare} harg8.unread xo)
      ∗ (arg9.view.loc (c : Thread nD τ) ↦[arg9.view.set]{fullShare} harg9.unread xs)
      ∗ ((iprop((arg3.view.loc (c : Thread nD τ) ↦[arg3.view.set]{fullShare} harg3.unread x3) ∗ (arg4.view.loc (c : Thread nD τ) ↦[arg4.view.set]{fullShare} harg4.unread x4)
      ∗ (arg5.view.loc (c : Thread nD τ) ↦[arg5.view.set]{fullShare} harg5.unread x5) ∗ (arg6.view.loc (c : Thread nD τ) ↦[arg6.view.set]{fullShare} harg6.unread x6)
      ∗ (arg7.view.loc (c : Thread nD τ) ↦[arg7.view.set]{fullShare} harg7.unread x7) ∗ (∃ f8, ⌜f8 = harg8.unread (outOf x3 x4 x5 x6 x7 (scr i hc1 x4 x5))⌝ ∗ (arg8.view.loc (c : Thread nD τ) ↦[arg8.view.set]{fullShare} f8))
      ∗ (∃ f9, ⌜f9 = harg9.unread (scr i hc1 x4 x5)⌝ ∗ (arg9.view.loc (c : Thread nD τ) ↦[arg9.view.set]{fullShare} f9)))) -∗ Q ⟨⟩))
    ⊢ wp frame (wpE (defs₀ (F := F)) 𝒱 (c : Thread nD τ) bd) E (cc0_attention (F := F) i arg3 harg3 arg4 harg4 arg5 harg5 arg6 harg6 arg7 harg7 arg8 harg8 arg9 harg9) Q := by
  iintro ⟨H3, H4, H5, H6, H7, H8, H9, Hk⟩
  simp only [Gen.cc0_attention_eq_skeleton]
  unfold cc0_attention_skel
  sl_exec_parts (disch := exact hc1)
  split
  · rename_i hb
    sl_exec_parts
    sl_step
    iapply Hk
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      rw [out_store]
      refine congrArg harg8.unread ?_
      sl_unfold_run_names
      simp (config := { proj := false }) only [View.readAt_eq_ld, Memref.IsWhole.read_unread, whole_x4, whole_x6, st1_fin, st2_fin, readCov_n0, readCov_n1]
      revert hb
      sl_unfold_run_names
      simp (config := { proj := false }) only [View.readAt_eq_ld, Memref.IsWhole.read_unread, whole_x4, whole_x6, st1_fin, st2_fin, readCov_n0, readCov_n1]
      intro hb
      unfold outOf narrow
      rw [if_pos hb]
      generalize k0_pay65 (q0 x3) (n0 (scr i hc1 x4 x5)) = b0
      generalize k0_pay66 (q1 x3) (n1 (scr i hc1 x4 x5)) = b1
      simp only [lit_q0, lit_q1]
      generalize q0 x3 = v0
      generalize q1 x3 = v1
      simp only [ch9, ch11, ch13, ch18, ch21, ch23, ch27, ch30, ch35, ch39, ch8, ch12, ch14, ch17, ch22, ch24, ch26, ch31, ch34, ch38, ch1]
      simp only [fixedOut, fix0, fix1]
      refine (ch1 (v0 := v0) (v1 := v1) (b := b0) (b1 := b1) (k2 := kRows x5 0) (v2 := vRows x7 0) ..).trans ?_
      refine congrArg₂ k0_pay3 ?_ ?_
      · iterate 14 refine cg37 ?_ rfl rfl
        refine (ch9 (v0 := v0) (v1 := v1) (b := b0) (b1 := b1) (a1 := k0_pay5 v0 b0 x4 x6) ..).trans ?_
        refine cg37 ?_ rfl rfl
        refine cg37 ?_ rfl rfl
        rfl
      · iterate 16 refine cg40 ?_ rfl rfl
        rfl
    · iexists _; isplitr; swap; · iexact H9
      ipureintro
      rw [← harg9.unread_read (arg9.view.writes (Elt F) _ _)]
      first | rw [View.read_writes_junk_eq_canon] | refine (congrArg harg9.unread (View.read_writes_eq_canon _ _ _ (fun y => scr_cover _ _ y))).trans ?_
      refine congrArg harg9.unread ?_
      sl_unfold_run_names
      simp (config := { proj := false }) only [View.readAt_eq_ld, Memref.IsWhole.read_unread, whole_x4, whole_x6, st1_fin, st2_fin, readCov_n0, readCov_n1]
      unfold scr
      rfl
  · rename_i hb
    sl_exec_parts
    sl_step
    iapply Hk
    isplitl [H3]; · iexact H3
    isplitl [H4]; · iexact H4
    isplitl [H5]; · iexact H5
    isplitl [H6]; · iexact H6
    isplitl [H7]; · iexact H7
    isplitl [H8]
    · iexists _; isplitr; swap; · iexact H8
      ipureintro
      rw [out_store]
      refine congrArg harg8.unread ?_
      sl_unfold_run_names
      simp (config := { proj := false }) only [View.readAt_eq_ld, Memref.IsWhole.read_unread, whole_x4, whole_x6, st1_fin, st2_fin, readCov_n0, readCov_n1, st3_fin]
      revert hb
      sl_unfold_run_names
      simp (config := { proj := false }) only [View.readAt_eq_ld, Memref.IsWhole.read_unread, whole_x4, whole_x6, st1_fin, st2_fin, readCov_n0, readCov_n1, st3_fin]
      intro hb
      unfold outOf narrow
      rw [if_neg hb]
      rfl
    · iexists _; isplitr; swap; · iexact H9
      ipureintro
      rw [← harg9.unread_read (arg9.view.writes (Elt F) _ _)]
      first | rw [View.read_writes_junk_eq_canon] | refine (congrArg harg9.unread (View.read_writes_eq_canon _ _ _ (fun y => scr_cover _ _ y))).trans ?_
      refine congrArg harg9.unread ?_
      sl_unfold_run_names
      simp (config := { proj := false }) only [View.readAt_eq_ld, Memref.IsWhole.read_unread, whole_x4, whole_x6, st1_fin, st2_fin, readCov_n0, readCov_n1, st3_fin]
      unfold scr
      rfl

end Cert.KernelIdeal.Att

end
-- ==== Proof.KernelIdealFrame.lean ====
module

public import proofs.«01_k».proof.Proof.KernelIdealRun
public import proofs.«01_k».proof.Proof.Gen.KernelIdeal.Launch
public import proofs.«01_k».proof.Proof.Gen.KernelIdeal.Points
public import Idealize.ShloMosaic.Lib.Pipeline.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention kernel's run: the blocks it leaves at every grid point -/

variable (m : (ℓ : Loc nD τ sig) → Buf (Elt F) ℓ) (ρ : Dev nD → PrngReg)

/-- The key norms after point `n`: computed anew at a point that computes them, kept otherwise. -/
def kstep (c : Dev nD) (n : ℕ) (prev : Vec F S2x8x128 .f32) : Vec F S2x8x128 .f32 :=
  if h : n < cfg0.N then
    if hc : k0_cond1 (grid0.coords ⟨n, h⟩) = 1#1 then scr (grid0.coords ⟨n, h⟩) hc (iblk m c 1 ⟨n, h⟩) (X0_2 m c ⟨n, h⟩)
    else prev
  else prev
/-- The scratch after point `n`. -/
def norms (c : Dev nD) : ℕ → Vec F S2x8x128 .f32
  | 0 => kstep m c 0 (View.canon [])
  | n + 1 => kstep m c (n + 1) (norms c n)

/-- The output's block after point `t`. -/
def outAt (c : Dev nD) (t : Fin cfg0.N) : Vec F S1024x128 .bf16 :=
  outOf (X0_0 m c t) (iblk m c 1 t) (X0_2 m c t) (iblk m c 3 t) (X0_4 m c t) (norms m c t.val)

/-- The scratch's contents when point `t` begins: arbitrary at first, the norms of the point before afterwards. -/
def scrInv (c : Dev nD) (t : Fin (cfg0.N + 1)) : sProp 𝕄 :=
  iprop((∃ xs : Vec F S2x8x128 .f32,
      ⌜t.val = 0 ∨ xs = norms m c (t.val - 1)⌝ ∗ owns (c : Thread nD τ) (Memref.whole cc0_scratch0) fullShare xs)
    ∗ ∃ r, prngReg c r)

/-- The proof data: every input's block is left in place, the output's is `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => X0_4 m c t
    | ⟨5, _⟩ => outAt m c t
  Φ t := scrInv m c t
  q w := Pipeline.shareOf spec0 w
  owed _ := 0

theorem dats_A (c : Dev nD) (w : Fin cfg0.W) : (dats m 0 c).A w = V m c (Pipeline.arrRef spec0 w) := rfl

/-- The key norms are computed at the first point. -/
theorem cond_first : ∀ t : Fin cfg0.N, t.val = 0 → k0_cond1 (grid0.coords t) = 1#1 := by decide +kernel

theorem norms_first (c : Dev nD) (t : Fin cfg0.N) (hc : k0_cond1 (grid0.coords t) = 1#1) :
    norms m c t.val = scr (grid0.coords t) hc (iblk m c 1 t) (X0_2 m c t) := by
  obtain ⟨n, h⟩ := t
  cases n with
  | zero => show kstep m c 0 _ = _; unfold kstep; rw [dif_pos h, dif_pos hc]
  | succ n => show kstep m c (n + 1) _ = _; unfold kstep; rw [dif_pos h, dif_pos hc]
theorem norms_later (c : Dev nD) (t : Fin cfg0.N) (hc : ¬ k0_cond1 (grid0.coords t) = 1#1) :
    norms m c t.val = norms m c (t.val - 1) := by
  obtain ⟨n, h⟩ := t
  cases n with
  | zero => exact absurd (cond_first ⟨0, h⟩ rfl) hc
  | succ n => show kstep m c (n + 1) _ = norms m c n; unfold kstep; rw [dif_pos h, dif_neg hc]

abbrev 𝒱₀ : Variants := Variants.none

theorem before_0 (c : Dev nD) (t : Fin cfg0.N) (d) : (dats m 0 c).before 0 t d = X0_0 m c t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = X0_2 m c t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = X0_4 m c t := before0_4_of m (dats m 0 c) rfl (fun _ => rfl) t d

/-- The body the pipeline calls at point `t`. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body where the key norms are kept, over its buffers. -/
theorem body_later (c : Dev nD) (i : grid0.Coords) (R : sProp 𝕄)
    (a0 : Memref sig .tc .vmem S1024x256 .bf16) (h0 : a0.IsWhole) (a1 : Memref sig .tc .vmem S256x256 .bf16) (h1 : a1.IsWhole) (a2 : Memref sig .tc .vmem S8192x256 .bf16) (h2 : a2.IsWhole) (a3 : Memref sig .tc .vmem S256x128 .bf16) (h3 : a3.IsWhole) (a4 : Memref sig .tc .vmem S8192x128 .bf16) (h4 : a4.IsWhole) (a5 : Memref sig .tc .vmem S1024x128 .bf16) (h5 : a5.IsWhole) (aS : Memref sig .tc .vmem S2x8x128 .f32) (hS : aS.IsWhole)
    (hc : ¬ k0_cond1 i = 1#1) (y0 : Vec F S1024x256 .bf16) (y1 : Vec F S256x256 .bf16) (y2 : Vec F S8192x256 .bf16) (y3 : Vec F S256x128 .bf16) (y4 : Vec F S8192x128 .bf16) (y5 : Vec F S1024x128 .bf16) (xs : Vec F S2x8x128 .f32) :
    iprop(owns (c : Thread nD τ) aS fullShare xs ∗ R
        ∗ owns (c : Thread nD τ) a0 fullShare y0
        ∗ owns (c : Thread nD τ) a1 fullShare y1
        ∗ owns (c : Thread nD τ) a2 fullShare y2
        ∗ owns (c : Thread nD τ) a3 fullShare y3
        ∗ owns (c : Thread nD τ) a4 fullShare y4
        ∗ owns (c : Thread nD τ) a5 fullShare y5)
      ⊢ wp frame (wpE (defs₀ (F := F)) 𝒱₀ (c : Thread nD τ) none) Set.univ (cc0_attention (F := F) i a0 h0 a1 h1 a2 h2 a3 h3 a4 h4 a5 h5 aS hS) fun _ =>
        iprop(owns (c : Thread nD τ) aS fullShare xs ∗ R
        ∗ owns (c : Thread nD τ) a0 fullShare y0
        ∗ owns (c : Thread nD τ) a1 fullShare y1
        ∗ owns (c : Thread nD τ) a2 fullShare y2
        ∗ owns (c : Thread nD τ) a3 fullShare y3
        ∗ owns (c : Thread nD τ) a4 fullShare y4
        ∗ owns (c : Thread nD τ) a5 fullShare (outOf y0 y1 y2 y3 y4 xs)) := by
  unfold owns
  iintro ⟨⟨%fs, %hfs, Hs⟩, HR, ⟨%f0, %hf0, H0⟩, ⟨%f1, %hf1, H1⟩, ⟨%f2, %hf2, H2⟩, ⟨%f3, %hf3, H3⟩, ⟨%f4, %hf4, H4⟩, ⟨%f5, %hf5, H5⟩⟩
  obtain rfl : f0 = h0.unread y0 := by rw [← hf0]; exact (h0.unread_read f0).symm
  obtain rfl : f1 = h1.unread y1 := by rw [← hf1]; exact (h1.unread_read f1).symm
  obtain rfl : f2 = h2.unread y2 := by rw [← hf2]; exact (h2.unread_read f2).symm
  obtain rfl : f3 = h3.unread y3 := by rw [← hf3]; exact (h3.unread_read f3).symm
  obtain rfl : f4 = h4.unread y4 := by rw [← hf4]; exact (h4.unread_read f4).symm
  obtain ⟨x5, rfl⟩ : ∃ x5, f5 = h5.unread x5 := ⟨_, (h5.unread_read f5).symm⟩
  obtain rfl : fs = hS.unread xs := by rw [← hfs]; exact (hS.unread_read fs).symm
  iapply (run_later 𝒱₀ c none i a0 h0 a1 h1 a2 h2 a3 h3 a4 h4 a5 h5 aS hS hc y0 y1 y2 y3 y4 x5 xs)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, ⟨%g5, %hg5, H5⟩, ⟨%gs, %hgs, Hs⟩⟩
  isplitl [Hs]
  · iexists gs; isplitr; · ipureintro; rw [hgs]; exact hS.read_unread _
    iexact Hs
  isplitl [HR]; · iexact HR
  isplitl [H0]; · iexists _; isplitr; swap; (· iexact H0); ipureintro; exact h0.read_unread _
  isplitl [H1]; · iexists _; isplitr; swap; (· iexact H1); ipureintro; exact h1.read_unread _
  isplitl [H2]; · iexists _; isplitr; swap; (· iexact H2); ipureintro; exact h2.read_unread _
  isplitl [H3]; · iexists _; isplitr; swap; (· iexact H3); ipureintro; exact h3.read_unread _
  isplitl [H4]; · iexists _; isplitr; swap; (· iexact H4); ipureintro; exact h4.read_unread _
  iexists g5; isplitr; swap; (· iexact H5); ipureintro; rw [hg5]; exact h5.read_unread _

set_option maxHeartbeats 1600000 in
/-- The body where the key norms are computed, over its buffers. -/
theorem body_first (c : Dev nD) (i : grid0.Coords) (R : sProp 𝕄)
    (a0 : Memref sig .tc .vmem S1024x256 .bf16) (h0 : a0.IsWhole) (a1 : Memref sig .tc .vmem S256x256 .bf16) (h1 : a1.IsWhole) (a2 : Memref sig .tc .vmem S8192x256 .bf16) (h2 : a2.IsWhole) (a3 : Memref sig .tc .vmem S256x128 .bf16) (h3 : a3.IsWhole) (a4 : Memref sig .tc .vmem S8192x128 .bf16) (h4 : a4.IsWhole) (a5 : Memref sig .tc .vmem S1024x128 .bf16) (h5 : a5.IsWhole) (aS : Memref sig .tc .vmem S2x8x128 .f32) (hS : aS.IsWhole)
    (hc : k0_cond1 i = 1#1) (y0 : Vec F S1024x256 .bf16) (y1 : Vec F S256x256 .bf16) (y2 : Vec F S8192x256 .bf16) (y3 : Vec F S256x128 .bf16) (y4 : Vec F S8192x128 .bf16) (y5 : Vec F S1024x128 .bf16) (xs : Vec F S2x8x128 .f32) :
    iprop(owns (c : Thread nD τ) aS fullShare xs ∗ R
        ∗ owns (c : Thread nD τ) a0 fullShare y0
        ∗ owns (c : Thread nD τ) a1 fullShare y1
        ∗ owns (c : Thread nD τ) a2 fullShare y2
        ∗ owns (c : Thread nD τ) a3 fullShare y3
        ∗ owns (c : Thread nD τ) a4 fullShare y4
        ∗ owns (c : Thread nD τ) a5 fullShare y5)
      ⊢ wp frame (wpE (defs₀ (F := F)) 𝒱₀ (c : Thread nD τ) none) Set.univ (cc0_attention (F := F) i a0 h0 a1 h1 a2 h2 a3 h3 a4 h4 a5 h5 aS hS) fun _ =>
        iprop(owns (c : Thread nD τ) aS fullShare (scr i hc y1 y2) ∗ R
        ∗ owns (c : Thread nD τ) a0 fullShare y0
        ∗ owns (c : Thread nD τ) a1 fullShare y1
        ∗ owns (c : Thread nD τ) a2 fullShare y2
        ∗ owns (c : Thread nD τ) a3 fullShare y3
        ∗ owns (c : Thread nD τ) a4 fullShare y4
        ∗ owns (c : Thread nD τ) a5 fullShare (outOf y0 y1 y2 y3 y4 (scr i hc y1 y2))) := by
  unfold owns
  iintro ⟨⟨%fs, %hfs, Hs⟩, HR, ⟨%f0, %hf0, H0⟩, ⟨%f1, %hf1, H1⟩, ⟨%f2, %hf2, H2⟩, ⟨%f3, %hf3, H3⟩, ⟨%f4, %hf4, H4⟩, ⟨%f5, %hf5, H5⟩⟩
  obtain rfl : f0 = h0.unread y0 := by rw [← hf0]; exact (h0.unread_read f0).symm
  obtain rfl : f1 = h1.unread y1 := by rw [← hf1]; exact (h1.unread_read f1).symm
  obtain rfl : f2 = h2.unread y2 := by rw [← hf2]; exact (h2.unread_read f2).symm
  obtain rfl : f3 = h3.unread y3 := by rw [← hf3]; exact (h3.unread_read f3).symm
  obtain rfl : f4 = h4.unread y4 := by rw [← hf4]; exact (h4.unread_read f4).symm
  obtain ⟨x5, rfl⟩ : ∃ x5, f5 = h5.unread x5 := ⟨_, (h5.unread_read f5).symm⟩
  obtain rfl : fs = hS.unread xs := by rw [← hfs]; exact (hS.unread_read fs).symm
  iapply (run_first 𝒱₀ c none i a0 h0 a1 h1 a2 h2 a3 h3 a4 h4 a5 h5 aS hS hc y0 y1 y2 y3 y4 x5 xs)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, ⟨%g5, %hg5, H5⟩, ⟨%gs, %hgs, Hs⟩⟩
  isplitl [Hs]
  · iexists gs; isplitr; · ipureintro; rw [hgs]; exact hS.read_unread _
    iexact Hs
  isplitl [HR]; · iexact HR
  isplitl [H0]; · iexists _; isplitr; swap; (· iexact H0); ipureintro; exact h0.read_unread _
  isplitl [H1]; · iexists _; isplitr; swap; (· iexact H1); ipureintro; exact h1.read_unread _
  isplitl [H2]; · iexists _; isplitr; swap; (· iexact H2); ipureintro; exact h2.read_unread _
  isplitl [H3]; · iexists _; isplitr; swap; (· iexact H3); ipureintro; exact h3.read_unread _
  isplitl [H4]; · iexists _; isplitr; swap; (· iexact H4); ipureintro; exact h4.read_unread _
  iexists g5; isplitr; swap; (· iexact H5); ipureintro; rw [hg5]; exact h5.read_unread _

set_option maxHeartbeats 1600000 in
/-- The body at point `t`, from what the pipeline hands it to what it takes back. -/
theorem sound_body (c : Dev nD) (t : Fin cfg0.N) :
    iprop(scrInv m c t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d)))
      ⊢ wp frame (wpE (defs₀ (F := F)) 𝒱₀ (c : Thread nD τ) none) Set.univ (bodyAt0 t) fun _ =>
        iprop(scrInv m c t.succ ∗ (dats m 0 c).owesAt () t.succ
        ∗ owns (c : Thread nD τ) (st0_0 t) fullShare (X0_0 m c t)
        ∗ owns (c : Thread nD τ) (st0_1 t) fullShare (iblk m c 1 t)
        ∗ owns (c : Thread nD τ) (st0_2 t) fullShare (X0_2 m c t)
        ∗ owns (c : Thread nD τ) (st0_3 t) fullShare (iblk m c 3 t)
        ∗ owns (c : Thread nD τ) (st0_4 t) fullShare (X0_4 m c t)
        ∗ owns (c : Thread nD τ) (st0_5 t) fullShare (outAt m c t)) := by
  simp only [before_0, before_1, before_2, before_3, before_4]
  have post : ∀ xs : Vec F S2x8x128 .f32, xs = norms m c t.val →
      (iprop(owns (c : Thread nD τ) (Memref.whole cc0_scratch0) fullShare xs ∗ ((∃ r, prngReg c r) ∗ (dats m 0 c).owesAt () t.castSucc)
        ∗ owns (c : Thread nD τ) (st0_0 t) fullShare (X0_0 m c t) ∗ owns (c : Thread nD τ) (st0_1 t) fullShare (iblk m c 1 t)
        ∗ owns (c : Thread nD τ) (st0_2 t) fullShare (X0_2 m c t) ∗ owns (c : Thread nD τ) (st0_3 t) fullShare (iblk m c 3 t)
        ∗ owns (c : Thread nD τ) (st0_4 t) fullShare (X0_4 m c t)
        ∗ owns (c : Thread nD τ) (st0_5 t) fullShare (outOf (X0_0 m c t) (iblk m c 1 t) (X0_2 m c t) (iblk m c 3 t) (X0_4 m c t) xs)) : sProp 𝕄)
      ⊢ iprop(scrInv m c t.succ ∗ (dats m 0 c).owesAt () t.succ
        ∗ owns (c : Thread nD τ) (st0_0 t) fullShare (X0_0 m c t)
        ∗ owns (c : Thread nD τ) (st0_1 t) fullShare (iblk m c 1 t)
        ∗ owns (c : Thread nD τ) (st0_2 t) fullShare (X0_2 m c t)
        ∗ owns (c : Thread nD τ) (st0_3 t) fullShare (iblk m c 3 t)
        ∗ owns (c : Thread nD τ) (st0_4 t) fullShare (X0_4 m c t)
        ∗ owns (c : Thread nD τ) (st0_5 t) fullShare (outAt m c t)) := by
    rintro _ rfl
    have e : (dats m 0 c).owesAt () t.castSucc = (dats m 0 c).owesAt () t.succ := rfl
    rw [e]
    unfold scrInv outAt
    iintro ⟨Hs, ⟨Hp, HO⟩, H⟩
    isplitl [Hs Hp]
    · isplitl [Hs]
      · iexists (norms m c t.val); isplitr; · ipureintro; exact Or.inr rfl
        iexact Hs
      iexact Hp
    isplitl [HO]; · iexact HO
    iexact H
  by_cases hc : k0_cond1 (grid0.coords t) = 1#1
  · have hn := norms_first m c t hc
    unfold scrInv
    iintro ⟨⟨⟨%xs, %hxs, Hs⟩, Hp⟩, HO, ⟨%d0, H0⟩, ⟨%d1, H1⟩, ⟨%d2, H2⟩, ⟨%d3, H3⟩, ⟨%d4, H4⟩, ⟨%d5, H5⟩⟩
    iapply ((body_first c (grid0.coords t) iprop((∃ r, prngReg c r) ∗ (dats m 0 c).owesAt () t.castSucc) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) hc
      (X0_0 m c t) (iblk m c 1 t) (X0_2 m c t) (iblk m c 3 t) (X0_4 m c t) ((dats m 0 c).before 5 t d5) xs).trans (wp_mono _ _ _ fun _ => post _ hn.symm))
    isplitl [Hs]; · iexact Hs
    isplitl [Hp HO]
    · isplitl [Hp]; · iexact Hp
      iexact HO
    isplitl [H0]; · iexact H0
    isplitl [H1]; · iexact H1
    isplitl [H2]; · iexact H2
    isplitl [H3]; · iexact H3
    isplitl [H4]; · iexact H4
    iexact H5
  · have hn := norms_later m c t hc
    unfold scrInv
    iintro ⟨⟨⟨%xs, %hxs, Hs⟩, Hp⟩, HO, ⟨%d0, H0⟩, ⟨%d1, H1⟩, ⟨%d2, H2⟩, ⟨%d3, H3⟩, ⟨%d4, H4⟩, ⟨%d5, H5⟩⟩
    have hxs' : xs = norms m c t.val := by
      rcases hxs with h | h
      · exact absurd (cond_first t h) hc
      · exact h.trans hn.symm
    iapply ((body_later c (grid0.coords t) iprop((∃ r, prngReg c r) ∗ (dats m 0 c).owesAt () t.castSucc) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) hc
      (X0_0 m c t) (iblk m c 1 t) (X0_2 m c t) (iblk m c 3 t) (X0_4 m c t) ((dats m 0 c).before 5 t d5) xs).trans (wp_mono _ _ _ fun _ => post _ hxs'))
    isplitl [Hs]; · iexact Hs
    isplitl [Hp HO]
    · isplitl [Hp]; · iexact Hp
      iexact HO
    isplitl [H0]; · iexact H0
    isplitl [H1]; · iexact H1
    isplitl [H2]; · iexact H2
    isplitl [H3]; · iexact H3
    isplitl [H4]; · iexact H4
    iexact H5

/-- The body's obligation at every point. -/
theorem body_obligation (c : Dev nD) : BodyObligation (dats m 0 c) (defs₀ (F := F)) 𝒱₀ () Set.univ := fun t => by
  rw [bigSep_W0, bigSep_W0, defs₀_row]
  exact triple_restated (sound_body m c t) rfl .rfl fun _ => .rfl

/-- The launch's post: the arrays as the windows leave them, every semaphore at zero. -/
theorem run_main :
    θ_run defs (onTc (τ := τ) (main (F := F))) (s₀ m ρ) (fun r => Pipeline.FramePost cfgs (dats m) 0 (V m) r ∧ r.2.sem = fun _ => 0) :=
  Pipeline.θ_run_frame_track_shared cfgs (dats m) 0 launch₀0 defs₀ 𝒱₀ m ρ main
    (fun c => (body_obligation m c).loose) (fun _ _ _ => rfl) (fun _ _ => rfl) (V m) (hmain m 𝒱₀) (fun _ _ => rfl)
    (fun c => by
      show Pipeline.ΦA spec0 c ⊢ scrInv m c 0
      unfold Pipeline.ΦA scrInv; rw [scopedRest0_eq]
      simp only [owns_whole_eq]
      iintro ⟨⟨%f, H⟩, Hp⟩
      isplitl [H]
      · iexists f; isplitr; · ipureintro; exact Or.inl rfl
        iexists f; isplitr; · ipureintro; rfl
        iexact H
      iexact Hp)
    (fun c => by
      show scrInv m c (Fin.last cfg0.N) ⊢ Pipeline.ΦA spec0 c
      unfold Pipeline.ΦA scrInv; rw [scopedRest0_eq]
      simp only [owns_whole_eq]
      iintro ⟨⟨%xs, %hx, ⟨%f, %hf, H⟩⟩, Hp⟩
      isplitl [H]
      · iexists f; iexact H
      iexact Hp)
    _ (fun _ h => h)

/-- @main runs, leaves its arguments as they were and every semaphore at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans ((dats m 0 c).arrAt_in 0 rfl _),
      ((h.1 c).1 2).trans ((dats m 0 c).arrAt_in 2 rfl _), ((h.1 c).1 4).trans ((dats m 0 c).arrAt_in 4 rfl _)⟩, h.2⟩) (run_main m ρ)

end Cert.KernelIdeal.Att

end
-- ==== Proof.KernelValue.lean ====
module

public import proofs.«01_k».proof.Proof.Block
public import proofs.«01_k».proof.Proof.Attn
public import proofs.«01_k».proof.Proof.KernelIdealFrame
public import Idealize.ShloMosaic.Lib.Pipeline.ValueKit

@[expose] public section

set_option maxRecDepth 16384

noncomputable section

namespace Cert.KernelIdeal.Att

open Cert.KernelIdeal Cert.KernelIdeal.Gen Cert.Soft
open Idealize.ShloMosaic Idealize.ShloMosaic.TcCoe
open scoped BigOperators

/-! # The array the attention kernel leaves -/

variable (m : (ℓ : Loc nD τ sig) → Buf (Elt Ideal) ℓ)

/-! ## The blocks, as parts of the arrays -/

theorem idx0 : ∀ t : Fin cfg0.N, win0_0.index t = ![8 * (t.val / 64) + t.val % 8, t.val / 8 % 8] := by decide +kernel
theorem idx1 : ∀ t : Fin cfg0.N, win0_1.index t = ![64 + t.val / 64, t.val / 8 % 8] := by decide +kernel
theorem idx2 : ∀ t : Fin cfg0.N, win0_2.index t = ![t.val / 64, t.val / 8 % 8] := by decide +kernel
theorem idx3 : ∀ t : Fin cfg0.N, win0_3.index t = ![64 + t.val / 64, t.val / 8 % 8] := by decide +kernel
theorem idx4 : ∀ t : Fin cfg0.N, win0_4.index t = ![t.val / 64, t.val / 8 % 8] := by decide +kernel
theorem idx5 : ∀ t : Fin cfg0.N, win0_5.index t = ![8 * (t.val / 64) + t.val % 8, t.val / 8 % 8] := by decide +kernel

variable (c : Dev nD) (t : Fin cfg0.N)

theorem blk0 (j : Fin 1024) (e : Fin 256) :
    X0_0 m c t (ix2 j e) = rd (m ((c : Thread nD τ).loc main_arg0)) (1024 * (8 * (t.val / 64) + t.val % 8) + j.val) (256 * (t.val / 8 % 8) + e.val) := by
  unfold X0_0 Pipeline.Window.fill
  rw [dif_pos (moved0_0 t _)]
  refine rd_of (m ((c : Thread nD τ).loc main_arg0)) (((cfg0.win 0).blk t).view.emb _) _ _ ?_ ?_
  · blk_simp [idx0]
    simp; omega
  · blk_simp [idx0]
    simp; omega
theorem blk1 (j : Fin 256) (e : Fin 256) :
    iblk m c 1 t (ix2 j e) = rd (m ((c : Thread nD τ).loc main_arg1)) (16384 + 256 * (t.val / 64) + j.val) (256 * (t.val / 8 % 8) + e.val) := by
  refine rd_of (m ((c : Thread nD τ).loc main_arg1)) (((cfg0.win 1).blk t).view.emb (ix2 j e)) _ _ ?_ ?_
  · blk_simp [idx1]
    simp; omega
  · blk_simp [idx1]
    simp; omega
theorem blk2 (j : Fin 8192) (e : Fin 256) :
    X0_2 m c t (ix2 j e) = rd (m ((c : Thread nD τ).loc main_arg1)) (8192 * (t.val / 64) + j.val) (256 * (t.val / 8 % 8) + e.val) := by
  unfold X0_2 Pipeline.Window.fill
  rw [dif_pos (moved0_2 t _)]
  refine rd_of (m ((c : Thread nD τ).loc main_arg1)) (((cfg0.win 2).blk t).view.emb _) _ _ ?_ ?_
  · blk_simp [idx2]
    simp; omega
  · blk_simp [idx2]
    simp; omega
theorem blk3 (j : Fin 256) (e : Fin 128) :
    iblk m c 3 t (ix2 j e) = rd (m ((c : Thread nD τ).loc main_arg2)) (16384 + 256 * (t.val / 64) + j.val) (128 * (t.val / 8 % 8) + e.val) := by
  refine rd_of (m ((c : Thread nD τ).loc main_arg2)) (((cfg0.win 3).blk t).view.emb (ix2 j e)) _ _ ?_ ?_
  · blk_simp [idx3]
    simp; omega
  · blk_simp [idx3]
    simp; omega
theorem blk4 (j : Fin 8192) (e : Fin 128) :
    X0_4 m c t (ix2 j e) = rd (m ((c : Thread nD τ).loc main_arg2)) (8192 * (t.val / 64) + j.val) (128 * (t.val / 8 % 8) + e.val) := by
  unfold X0_4 Pipeline.Window.fill
  rw [dif_pos (moved0_4 t _)]
  refine rd_of (m ((c : Thread nD τ).loc main_arg2)) (((cfg0.win 4).blk t).view.emb _) _ _ ?_ ?_
  · blk_simp [idx4]
    simp; omega
  · blk_simp [idx4]
    simp; omega

/-! ## The key norms are not negative -/

theorem scr_nonneg (i : grid0.Coords) (hc) (x4 : Vec Ideal S256x256 .bf16) (x5 : Vec Ideal S8192x256 .bf16) (y : S2x8x128.Idx) :
    0 ≤ scr i hc x4 x5 y := by
  unfold scr
  set p : View.Piece (Elt Ideal) S2x8x128 .f32 := ⟨Rect.unit (s := S2x8x128) ![1, 0, 0] S1x8x128.size inb_S2x8x128_S1x8x128_1_0_0,
    k0_pay64 (nrm1 i hc x4 x5 k0_t2_loop.trips)⟩ with hp
  set q : View.Piece (Elt Ideal) S2x8x128 .f32 := ⟨Rect.unit (s := S2x8x128) ![0, 0, 0] S1x8x128.size inb_S2x8x128_S1x8x128_0_0_0,
    k0_pay61 (nrm0 i hc x4 x5 k0_t1_loop.trips)⟩ with hq
  have hcov : ∃ z ∈ [p, q], y ∈ z.1.set := View.cover_of_tiled_head _ _ _ rfl y
  by_cases hm : y ∈ p.1.set
  · obtain ⟨x, rfl⟩ := p.1.exists_idx_of_mem hm
    rw [show p.1.idx x = p.1.emb x from rfl, View.canon_cons_emb]
    exact pay64_nonneg _ (fun j => nrm1_nonneg i hc x4 x5 _ j) _
  · rw [View.canon_cons_of_not_mem _ _ hm]
    obtain ⟨z, hz, hy⟩ := hcov
    rcases List.mem_cons.mp hz with rfl | hz
    · exact absurd hy hm
    · obtain rfl := List.mem_singleton.mp hz
      obtain ⟨x, rfl⟩ := q.1.exists_idx_of_mem hy
      rw [show q.1.idx x = q.1.emb x from rfl, View.canon_cons_emb]
      exact pay61_nonneg _ (fun j => nrm0_nonneg i hc x4 x5 _ j) _

theorem norms_nonneg (n : ℕ) (hn : n < cfg0.N) (y : S2x8x128.Idx) : 0 ≤ norms m c n y := by
  induction n with
  | zero =>
    rw [norms_first m c ⟨0, hn⟩ (cond_first ⟨0, hn⟩ rfl)]
    exact scr_nonneg _ _ _ _ y
  | succ n ih =>
    by_cases hc : k0_cond1 (grid0.coords ⟨n + 1, hn⟩) = 1#1
    · rw [norms_first m c ⟨n + 1, hn⟩ hc]
      exact scr_nonneg _ _ _ _ y
    · rw [norms_later m c ⟨n + 1, hn⟩ hc]
      exact ih (by omega)

theorem n0_nonneg (xs : Vec Ideal S2x8x128 .f32) (h : ∀ y, 0 ≤ xs y) : 0 ≤ n0 xs (ix3 0 0 0) := h _
theorem n1_nonneg (xs : Vec Ideal S2x8x128 .f32) (h : ∀ y, 0 ≤ xs y) : 0 ≤ n1 xs (ix3 0 0 0) := h _

/-! ## The block stored, and the array -/

/-- The row's scores in head `2 p + o / 128`. -/
theorem scores_of (hq : RealRows 16384 (m ((c : Thread nD τ).loc main_arg0))) (hk : RealRows 16896 (m ((c : Thread nD τ).loc main_arg1)))
    (o : ℕ) (ho : o ≤ 128) (h : ℕ) (hh : 128 * h = 256 * (t.val / 8 % 8) + o) (q : Vec Ideal S1024x128 .bf16) (r : Fin 1024)
    (hqr : ∀ k : Fin 128, q (ix2 r k) = rd (m ((c : Thread nD τ).loc main_arg0)) (1024 * (8 * (t.val / 64) + t.val % 8) + r.val) (256 * (t.val / 8 % 8) + (o + k.val))) :
    Scores o ho q (iblk m c 1 t) (X0_2 m c t) r
      (fun j => (score (m ((c : Thread nD τ).loc main_arg0)) (m ((c : Thread nD τ).loc main_arg1)) (1024 * (8 * (t.val / 64) + t.val % 8) + r.val) h j).toReal) := by
  have ht : t.val < 128 := t.isLt
  have hr := r.isLt
  have hb : (1024 * (8 * (t.val / 64) + t.val % 8) + r.val) / 8192 = t.val / 64 := by omega
  constructor
  · intro j
    have hj := j.isLt
    rw [← score_real hq hk (by omega) h _ (by omega)]
    unfold sc score
    refine Finset.sum_congr rfl fun k _ => ?_
    rw [hqr, blk1, hb]
    unfold keyRow
    rw [if_pos hj]
    refine congrArg₂ (· * ·) (congrArg (rd _ _) (by omega)) (congrArg (rd _ _) ?_)
    show 256 * (t.val / 8 % 8) + (o + k.val) = _
    omega
  · intro j
    have hj := j.isLt
    rw [← score_real hq hk (by omega) h _ (by omega)]
    unfold sc score
    refine Finset.sum_congr rfl fun k _ => ?_
    rw [hqr, blk2, hb]
    unfold keyRow
    rw [if_neg (by omega), Nat.add_sub_cancel_left]
    refine congrArg₂ (· * ·) (congrArg (rd _ _) (by omega)) (congrArg (rd _ _) ?_)
    show 256 * (t.val / 8 % 8) + (o + k.val) = _
    omega

theorem q0_at (r : Fin 1024) (k : Fin 128) (x : Vec Ideal S1024x256 .bf16) : q0 x (ix2 r k) = x (ix2 r ⟨0 + k.val, by omega⟩) :=
  View.ld_unit_apply_of _ _ _ _ _ _ fun a => match a with
    | ⟨0, _⟩ => by show r.val = 0 + r.val; omega
    | ⟨1, _⟩ => by show 0 + k.val = 0 + k.val; omega
theorem q1_at (r : Fin 1024) (k : Fin 128) (x : Vec Ideal S1024x256 .bf16) : q1 x (ix2 r k) = x (ix2 r ⟨128 + k.val, by omega⟩) :=
  View.ld_unit_apply_of _ _ _ _ _ _ fun a => match a with
    | ⟨0, _⟩ => by show r.val = 0 + r.val; omega
    | ⟨1, _⟩ => by show 128 + k.val = 128 + k.val; omega

theorem outAt_eq (hq : RealRows 16384 (m ((c : Thread nD τ).loc main_arg0))) (hk : RealRows 16896 (m ((c : Thread nD τ).loc main_arg1)))
    (r : Fin 1024) (l : Fin 128) :
    outAt m c t (ix2 r l) = attn (m ((c : Thread nD τ).loc main_arg0)) (m ((c : Thread nD τ).loc main_arg1)) (m ((c : Thread nD τ).loc main_arg2))
      (1024 * (8 * (t.val / 64) + t.val % 8) + r.val) (128 * (t.val / 8 % 8) + l.val) := by
  have ht : t.val < 128 := t.isLt
  have hr := r.isLt
  have hll := l.isLt
  have hb : (1024 * (8 * (t.val / 64) + t.val % 8) + r.val) / 8192 = t.val / 64 := by omega
  have h6 : ∀ j : Fin 256, iblk m c 3 t (ix2 j l) = rd (m ((c : Thread nD τ).loc main_arg2)) (keyRow (t.val / 64) j.val) (128 * (t.val / 8 % 8) + l.val) := fun j => by
    rw [blk3]; unfold keyRow; rw [if_pos j.isLt]
  have h7 : ∀ j : Fin 8192, X0_4 m c t (ix2 j l) = rd (m ((c : Thread nD τ).loc main_arg2)) (keyRow (t.val / 64) (256 + j.val)) (128 * (t.val / 8 % 8) + l.val) := fun j => by
    rw [blk4]; unfold keyRow; rw [if_neg (by omega), Nat.add_sub_cancel_left]
  have hN : ∀ y, 0 ≤ norms m c t.val y := fun y => norms_nonneg m c t.val t.isLt y
  unfold outAt attn
  rw [hb]
  by_cases hl : l.val < 64
  · have hc : (128 * (t.val / 8 % 8) + l.val) / 64 = 2 * (t.val / 8 % 8) := by omega
    rw [hc]
    have hS := scores_of m c t hq hk 0 (by omega) (2 * (t.val / 8 % 8)) (by omega) (q0 (X0_0 m c t)) r fun k => by rw [q0_at, blk0]
    have e := outOf_lt (n0_nonneg _ hN) (n1_nonneg _ hN) hl hS
      (W := fun j => rd (m ((c : Thread nD τ).loc main_arg2)) (keyRow (t.val / 64) j) (128 * (t.val / 8 % 8) + l.val)) h6 h7
    exact e
  · have hc : (128 * (t.val / 8 % 8) + l.val) / 64 = 2 * (t.val / 8 % 8) + 1 := by omega
    rw [hc]
    have hS := scores_of m c t hq hk 128 (by omega) (2 * (t.val / 8 % 8) + 1) (by omega) (q1 (X0_0 m c t)) r fun k => by rw [q1_at, blk0]
    have e := outOf_ge (n0_nonneg _ hN) (n1_nonneg _ hN) hl hS
      (W := fun j => rd (m ((c : Thread nD τ).loc main_arg2)) (keyRow (t.val / 64) j) (128 * (t.val / 8 % 8) + l.val)) h6 h7
    exact e

theorem pair_eta (z : S1024x128.Idx) : z = ix2 (z 0) (z 1) :=
  funext fun a => match a with | ⟨0, _⟩ => rfl | ⟨1, _⟩ => rfl

theorem outAt_at (hq : RealRows 16384 (m ((c : Thread nD τ).loc main_arg0))) (hk : RealRows 16896 (m ((c : Thread nD τ).loc main_arg1)))
    (z : S1024x128.Idx) :
    outAt m c t z = attn (m ((c : Thread nD τ).loc main_arg0)) (m ((c : Thread nD τ).loc main_arg1)) (m ((c : Thread nD τ).loc main_arg2))
      (1024 * (8 * (t.val / 64) + t.val % 8) + (z 0).val) (128 * (t.val / 8 % 8) + (z 1).val) := by
  have hz : z = ix2 (z 0) (z 1) := pair_eta z
  exact (congrArg (outAt m c t) hz).trans (outAt_eq m c t hq hk (z 0) (z 1))

/-- The attention as an array. -/
def attnArr (q k : S16896x2048.Idx → EReal) (v : S16896x1024.Idx → EReal) : S16384x1024.Idx → EReal :=
  fun y => attn q k v (y 0).val (y 1).val

theorem covers5 : (cfg0.win 5).Covers := by decide +kernel

theorem attnArr_emb (q k : S16896x2048.Idx → EReal) (v : S16896x1024.Idx → EReal) (y : S1024x128.Idx) :
    attnArr q k v (((cfg0.win 5).blk t).view.emb y)
      = attn q k v (1024 * (8 * (t.val / 64) + t.val % 8) + (y 0).val) (128 * (t.val / 8 % 8) + (y 1).val) := by
  unfold attnArr
  have e0 : ((((cfg0.win 5).blk t).view.emb y) 0).val = 1024 * (8 * (t.val / 64) + t.val % 8) + (y 0).val := by
    blk_simp [idx5]
    simp; omega
  have e1 : ((((cfg0.win 5).blk t).view.emb y) 1).val = 128 * (t.val / 8 % 8) + (y 1).val := by
    blk_simp [idx5]
    simp; omega
  exact congrArg₂ (attn q k v) e0 e1

theorem after5 : (dats m 0 c).after 5 t = outAt m c t := by unfold dats; rfl

/-- The array the attention call leaves is the attention of its operands. -/
theorem out_eq (hq : RealRows 16384 (m ((c : Thread nD τ).loc main_arg0))) (hk : RealRows 16896 (m ((c : Thread nD τ).loc main_arg1))) :
    (dats m 0 c).arrAt 5 cfg0.N
      = attnArr (m ((c : Thread nD τ).loc main_arg0)) (m ((c : Thread nD τ).loc main_arg1)) (m ((c : Thread nD τ).loc main_arg2)) := by
  refine (dats m 0 c).arrAt_eq_of_covers 5 _ covers5 fun t hf y => ?_
  blk_simp
  rw [after5]
  exact (outAt_at m c t hq hk y).trans (attnArr_emb t _ _ _ y).symm

end Cert.KernelIdeal.Att

end
-- ==== Proof.RefValue.lean ====
module

public import proofs.«01_k».proof.Proof.Attn
public import proofs.«01_k».proof.Proof.Gen.ReferenceIdeal.Read

@[expose] public section

noncomputable section

namespace Cert.ReferenceIdeal.Att

open Cert.ReferenceIdeal Cert.ReferenceIdeal.Gen Cert.ReferenceIdeal.Read Cert.Soft
open Idealize.ShloMosaic Idealize.ShloMosaic.TcCoe
open scoped BigOperators

/-! # The reference's array -/

variable (x0 x1 : (⟨S16896x2048, .bf16⟩ : BufTy).Contents (Elt Ideal)) (x2 : (⟨S16896x1024, .bf16⟩ : BufTy).Contents (Elt Ideal))

theorem v1_at (i : S2x8192x16x128.Idx) :
    val_main_v1 (F := Ideal) x0 i = rd x0 (8192 * (i 0).val + (i 1).val) (128 * (i 2).val + (i 3).val) := by
  rw [val_main_v1_apply, val_main_v0_apply]
  have h0 : (i 0).val < 2 := (i 0).isLt
  have h1 : (i 1).val < 8192 := (i 1).isLt
  have h2 : (i 2).val < 16 := (i 2).isLt
  have h3 : (i 3).val < 128 := (i 3).isLt
  refine rd_of x0 _ _ _ ?_ ?_
  · show ((((i 0).val * 8192 + (i 1).val) * 16 + (i 2).val) * 128 + (i 3).val) / 2048 = _
    omega
  · show ((((i 0).val * 8192 + (i 1).val) * 16 + (i 2).val) * 128 + (i 3).val) % 2048 = _
    omega
theorem v3_at (i : S2x8192x16x128.Idx) :
    val_main_v3 (F := Ideal) x1 i = rd x1 (8192 * (i 0).val + (i 1).val) (128 * (i 2).val + (i 3).val) := by
  rw [val_main_v3_apply, val_main_v2_apply]
  have h0 : (i 0).val < 2 := (i 0).isLt
  have h1 : (i 1).val < 8192 := (i 1).isLt
  have h2 : (i 2).val < 16 := (i 2).isLt
  have h3 : (i 3).val < 128 := (i 3).isLt
  refine rd_of x1 _ _ _ ?_ ?_
  · show ((((i 0).val * 8192 + (i 1).val) * 16 + (i 2).val) * 128 + (i 3).val) / 2048 = _
    omega
  · show ((((i 0).val * 8192 + (i 1).val) * 16 + (i 2).val) * 128 + (i 3).val) % 2048 = _
    omega
theorem v5_at (i : S2x256x16x128.Idx) :
    val_main_v5 (F := Ideal) x1 i = rd x1 (16384 + 256 * (i 0).val + (i 1).val) (128 * (i 2).val + (i 3).val) := by
  rw [val_main_v5_apply, val_main_v4_apply]
  have h0 : (i 0).val < 2 := (i 0).isLt
  have h1 : (i 1).val < 256 := (i 1).isLt
  have h2 : (i 2).val < 16 := (i 2).isLt
  have h3 : (i 3).val < 128 := (i 3).isLt
  refine rd_of x1 _ _ _ ?_ ?_
  · show 16384 + ((((i 0).val * 256 + (i 1).val) * 16 + (i 2).val) * 128 + (i 3).val) / 2048 = _
    omega
  · show ((((i 0).val * 256 + (i 1).val) * 16 + (i 2).val) * 128 + (i 3).val) % 2048 = _
    omega
theorem v27_at (i : S2x8192x16x64.Idx) :
    val_main_v27 (F := Ideal) x2 i = rd x2 (8192 * (i 0).val + (i 1).val) (64 * (i 2).val + (i 3).val) := by
  rw [val_main_v27_apply, val_main_v26_apply]
  have h0 : (i 0).val < 2 := (i 0).isLt
  have h1 : (i 1).val < 8192 := (i 1).isLt
  have h2 : (i 2).val < 16 := (i 2).isLt
  have h3 : (i 3).val < 64 := (i 3).isLt
  refine rd_of x2 _ _ _ ?_ ?_
  · show ((((i 0).val * 8192 + (i 1).val) * 16 + (i 2).val) * 64 + (i 3).val) / 1024 = _
    omega
  · show ((((i 0).val * 8192 + (i 1).val) * 16 + (i 2).val) * 64 + (i 3).val) % 1024 = _
    omega
theorem v29_at (i : S2x256x16x64.Idx) :
    val_main_v29 (F := Ideal) x2 i = rd x2 (16384 + 256 * (i 0).val + (i 1).val) (64 * (i 2).val + (i 3).val) := by
  rw [val_main_v29_apply, val_main_v28_apply]
  have h0 : (i 0).val < 2 := (i 0).isLt
  have h1 : (i 1).val < 256 := (i 1).isLt
  have h2 : (i 2).val < 16 := (i 2).isLt
  have h3 : (i 3).val < 64 := (i 3).isLt
  refine rd_of x2 _ _ _ ?_ ?_
  · show 16384 + ((((i 0).val * 256 + (i 1).val) * 16 + (i 2).val) * 64 + (i 3).val) / 1024 = _
    omega
  · show ((((i 0).val * 256 + (i 1).val) * 16 + (i 2).val) * 64 + (i 3).val) % 1024 = _
    omega

theorem v6_at (b : Fin 2) (j : Fin 8448) (h : Fin 16) (d : Fin 128) :
    val_main_v6 (F := Ideal) x1 (ix4 b j h d) = rd x1 (keyRow b.val j.val) (128 * h.val + d.val) := by
  unfold val_main_v6
  simp only [pointwise]
  unfold keyRow
  split
  · exact v5_at x1 _
  · refine (v3_at x1 _).trans (congrArg₂ (rd x1) ?_ ?_)
    · simp
    · simp
theorem v30_at (b : Fin 2) (j : Fin 8448) (h : Fin 16) (d : Fin 64) :
    val_main_v30 (F := Ideal) x2 (ix4 b j h d) = rd x2 (keyRow b.val j.val) (64 * h.val + d.val) := by
  unfold val_main_v30
  simp only [pointwise]
  unfold keyRow
  split
  · exact v29_at x2 _
  · refine (v27_at x2 _).trans (congrArg₂ (rd x2) ?_ ?_)
    · simp
    · simp

theorem quad_eta {A B C D : ℕ} (z : (⟨4, ![A, B, C, D]⟩ : Shape).Idx) (a : Fin A) (b : Fin B) (c : Fin C) (d : Fin D)
    (h0 : (z 0).val = a.val) (h1 : (z 1).val = b.val) (h2 : (z 2).val = c.val) (h3 : (z 3).val = d.val) : z = ix4 a b c d :=
  funext fun x => Fin.ext (match x with | ⟨0, _⟩ => h0 | ⟨1, _⟩ => h1 | ⟨2, _⟩ => h2 | ⟨3, _⟩ => h3)
theorem trip_eta {A B C : ℕ} (z : (⟨3, ![A, B, C]⟩ : Shape).Idx) (a : Fin A) (b : Fin B) (c : Fin C)
    (h0 : (z 0).val = a.val) (h1 : (z 1).val = b.val) (h2 : (z 2).val = c.val) : z = ix3 a b c :=
  funext fun x => Fin.ext (match x with | ⟨0, _⟩ => h0 | ⟨1, _⟩ => h1 | ⟨2, _⟩ => h2)

theorem v7_at (b : Fin 2) (h : Fin 16) (q : Fin 8192) (j : Fin 8448) :
    val_main_v7 (F := Ideal) x0 x1 (ix4 b h q j) = score x0 x1 (8192 * b.val + q.val) h.val j.val := by
  rw [val_main_v7_apply]
  unfold score
  refine Finset.sum_congr rfl fun k _ => ?_
  have hq := q.isLt
  rw [quad_eta (ridx_main_v7 (ix4 b h q j) k) b j h k rfl rfl rfl rfl, v6_at, v1_at,
    show (8192 * b.val + q.val) / 8192 = b.val by omega]
  rfl

theorem log_two : FloatOps.hostUnary (F := Ideal) .log (FloatOps.ofBits (F := Ideal) .f32 0x40000000#32) = ((Real.log 2 : ℝ) : EReal) := by
  have h : (FloatOps.ofBits (F := Ideal) .f32 0x40000000#32 : EReal) = ((2 : ℝ) : EReal) := by
    show Ideal.ofBits .f32 0x40000000#32 = _
    simp [Ideal.ofBits, Ideal.ieee]
    rw [← EReal.coe_mul]
    refine congrArg _ ?_
    norm_num
  rw [h]
  show (if (2 : ℝ) ≤ 0 then (⊥ : EReal) else ((Real.log 2 : ℝ) : EReal)) = _
  rw [if_neg (by norm_num)]

theorem neg_inf : (FloatOps.ofBits (F := Ideal) .f32 0xFF800000#32 : EReal) = ⊥ := by
  show Ideal.ofBits .f32 0xFF800000#32 = _
  simp [Ideal.ofBits, Ideal.ieee]
theorem zero_bits : (FloatOps.ofBits (F := Ideal) .f32 0x00000000#32 : EReal) = 0 := by
  show Ideal.ofBits .f32 0x00000000#32 = _
  simp [Ideal.ofBits, Ideal.ieee]

variable {x0 x1}

theorem v13_at (hq : RealRows 16384 x0) (hk : RealRows 16896 x1) (b : Fin 2) (h : Fin 16) (q : Fin 8192) (j : Fin 8448) :
    val_main_v13 (F := Ideal) x0 x1 (ix4 b h q j) = (((score x0 x1 (8192 * b.val + q.val) h.val j.val).toReal * Real.log 2 : ℝ) : EReal) := by
  have e : val_main_v12 (F := Ideal) (ix4 b h q j) = ((Real.log 2 : ℝ) : EReal) := by
    rw [val_main_v12_apply, val_main_v11_apply, val_main_v10_apply, val_main_cst_apply, log_two]
  have e' : val_main_v9 (F := Ideal) x0 x1 (ix4 b h q j) = val_main_v7 (F := Ideal) x0 x1 (ix4 b h q j) := rfl
  rw [val_main_v13_apply, e, e', v7_at, score_real hq hk (by have := b.isLt; have := q.isLt; omega) _ _ j.isLt]
  rfl

theorem v16_at (hq : RealRows 16384 x0) (hk : RealRows 16896 x1) (b : Fin 2) (h : Fin 16) (q : Fin 8192) :
    ∃ M : ℝ, val_main_v16 (F := Ideal) x0 x1 (ix3 b h q) = (M : EReal) := by
  obtain ⟨M, hM⟩ := fold_max_real Finset.univ (fun j : Fin 8448 => val_main_v13 (F := Ideal) x0 x1 (ix4 b h q j)) _
    (fun j => v13_at hq hk b h q j) ⟨0, Finset.mem_univ _⟩
  refine ⟨M, ?_⟩
  have e : val_main_v14 (F := Ideal) x0 x1 (ix3 b h q) = (M : EReal) := by
    unfold val_main_v14
    simp only [pointwise]
    rw [val_main_cst_0_apply, neg_inf]
    exact hM
  rw [val_main_v16_apply, e, val_main_v15_apply, val_main_cst_1_apply, neg_inf]
  exact max_eq_right bot_le

theorem v20_at (hq : RealRows 16384 x0) (hk : RealRows 16896 x1) (b : Fin 2) (h : Fin 16) (q : Fin 8192) (M : ℝ)
    (hM : val_main_v16 (F := Ideal) x0 x1 (ix3 b h q) = (M : EReal)) (j : Fin 8448) :
    val_main_v20 (F := Ideal) x0 x1 (ix4 b h q j)
      = ((Real.exp ((score x0 x1 (8192 * b.val + q.val) h.val j.val).toReal * Real.log 2 - M) : ℝ) : EReal) := by
  have e : val_main_v18 (F := Ideal) x0 x1 (ix4 b h q j) = (M : EReal) := by
    rw [val_main_v18_apply, val_main_v17_apply, ← hM]
    exact congrArg _ (trip_eta _ b h q rfl rfl rfl)
  rw [val_main_v20_apply, val_main_v19_apply, e, v13_at hq hk]
  show Ideal.exp (((_ : ℝ) : EReal) - ((_ : ℝ) : EReal)) = _
  rw [← EReal.coe_sub]
  rfl

theorem coe_sum {n : ℕ} (g : Fin n → ℝ) : ∑ i, ((g i : ℝ) : EReal) = ((∑ i, g i : ℝ) : EReal) := by
  induction (Finset.univ : Finset (Fin n)) using Finset.induction_on with
  | empty => simp
  | insert x T hx ih => rw [Finset.sum_insert hx, Finset.sum_insert hx, ih, EReal.coe_add]

theorem v25_at (hq : RealRows 16384 x0) (hk : RealRows 16896 x1) (b : Fin 2) (h : Fin 16) (q : Fin 8192) (M : ℝ)
    (hM : val_main_v16 (F := Ideal) x0 x1 (ix3 b h q) = (M : EReal)) (j : Fin 8448) :
    val_main_v25 (F := Ideal) x0 x1 (ix4 b h q j)
      = Ideal.div ((Real.exp ((score x0 x1 (8192 * b.val + q.val) h.val j.val).toReal * Real.log 2 - M) : ℝ) : EReal)
        ((∑ k : Fin 8448, Real.exp ((score x0 x1 (8192 * b.val + q.val) h.val k.val).toReal * Real.log 2 - M) : ℝ) : EReal) := by
  have e : val_main_v23 (F := Ideal) x0 x1 (ix4 b h q j)
      = ((∑ k : Fin 8448, Real.exp ((score x0 x1 (8192 * b.val + q.val) h.val k.val).toReal * Real.log 2 - M) : ℝ) : EReal) := by
    rw [val_main_v23_apply, val_main_v22_apply, val_main_v21_apply, val_main_cst_2_apply, zero_bits, zero_add, ← coe_sum]
    refine Finset.sum_congr rfl fun k _ => ?_
    rw [quad_eta (idx_main_v21 _ k) b h q k rfl rfl rfl rfl]
    exact v20_at hq hk b h q M hM k
  rw [val_main_v25_apply, val_main_v24_apply, e, v20_at hq hk b h q M hM]
  rfl

/-- The reference's array is the attention of its operands. -/
theorem ref_eq (hq : RealRows 16384 x0) (hk : RealRows 16896 x1) (i : S16384x1024.Idx) :
    val_main_v34 (F := Ideal) x0 x1 x2 i = attn x0 x1 x2 (i 0).val (i 1).val := by
  have h0 : (i 0).val < 16384 := (i 0).isLt
  have h1 : (i 1).val < 1024 := (i 1).isLt
  obtain ⟨M, hM⟩ := v16_at hq hk ⟨(i 0).val / 8192, by omega⟩ ⟨(i 1).val / 64, by omega⟩ ⟨(i 0).val % 8192, by omega⟩
  rw [val_main_v34_apply, val_main_v33_apply, val_main_v32_apply]
  show val_main_v31 (F := Ideal) x0 x1 x2 _ = _
  rw [val_main_v31_apply]
  have hR : 8192 * ((i 0).val / 8192) + (i 0).val % 8192 = (i 0).val := by omega
  have hC : 64 * ((i 1).val / 64) + (i 1).val % 64 = (i 1).val := by omega
  unfold attn
  rw [← mean_shift _ (M / Real.log 2) 0, ← mean_eq_host]
  refine Finset.sum_congr rfl fun k _ => ?_
  have eL := quad_eta (lidx_main_v31 (idx_main_v32 (idx_main_v34 i)) k) ⟨(i 0).val / 8192, by omega⟩ k ⟨(i 1).val / 64, by omega⟩ ⟨(i 1).val % 64, by omega⟩
    (by show ((i 0).val * 1024 + (i 1).val) / 8388608 = (i 0).val / 8192; omega) rfl
    (by show ((i 0).val * 1024 + (i 1).val) / 64 % 16 = (i 1).val / 64; omega)
    (by show ((i 0).val * 1024 + (i 1).val) % 64 = (i 1).val % 64; omega)
  have eR := quad_eta (ridx_main_v31 (idx_main_v32 (idx_main_v34 i)) k) ⟨(i 0).val / 8192, by omega⟩ ⟨(i 1).val / 64, by omega⟩ ⟨(i 0).val % 8192, by omega⟩ k
    (by show ((i 0).val * 1024 + (i 1).val) / 8388608 = (i 0).val / 8192; omega)
    (by show ((i 0).val * 1024 + (i 1).val) / 64 % 16 = (i 1).val / 64; omega)
    (by show ((i 0).val * 1024 + (i 1).val) / 1024 % 8192 = (i 0).val % 8192; omega) rfl
  rw [eL, eR, v30_at, v25_at hq hk _ _ _ M hM]
  simp only [hR, hC]

end Cert.ReferenceIdeal.Att

end
-- ==== Proof.Pre.lean ====
module

public import proofs.«01_k».proof.Pre_finite_scores
public import proofs.«01_k».proof.Proof.Attn
public import Idealize.ShloMosaic.Lib.ReduceAll

@[expose] public section

noncomputable section

namespace Cert.Pre_finite_scores.Att

open Cert.Pre_finite_scores Cert.Soft
open Idealize.ShloMosaic

/-! # The precondition read back: every query and key entry is a real number -/

/-- The side conditions of the precondition's operations. -/
theorem facts : Cert.Pre_finite_scores.Facts where
  slices_S16896x2048_S16384x2048_0_0 := by decide
  bitsLt_bf16_f32 := by decide
  bcast_S_S16384x2048 := by decide
  reducesTo_S16384x2048_S_d0_1 := by decide
  h_S_ := by decide
  bcast_S_S16896x2048 := by decide
  reducesTo_S16896x2048_S_d0_1 := by decide

/-- A number whose absolute value is below infinity is a real. -/
theorem real_of_abs {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hc
    unfold Ideal.cmp at h
    simp [hc] at h
  refine ⟨x.toReal, (EReal.coe_toReal (ne_of_lt (lt_of_le_of_lt (le_max_left _ _) hlt)) fun hb => ?_).symm⟩
  rw [hb] at hlt
  simp at hlt

instance : Subsingleton S_.Idx := ⟨fun a b => funext fun x => x.elim0⟩

attribute [local instance] facts

theorem reals (q k : FVec Ideal S16896x2048 .bf16) (v : FVec Ideal S16896x1024 .bf16)
    (h : fn (F := Ideal) q k v = fun _ => 1#1) : RealRows 16384 q ∧ RealRows 16896 k := by
  have h0 := congrFun h (Shape.Idx.first Facts.h_S_)
  dsimp only [fn] at h0
  obtain ⟨hq, hk⟩ := IntOp.andi_eq_one.1 h0
  constructor
  · intro y hy
    have e := Host.reduce_andi_all _ _ _ _ _ hq (ix2 ⟨(y 0).val, hy⟩ ⟨(y 1).val, (y 1).isLt⟩)
    obtain ⟨r, hr⟩ := real_of_abs e
    refine ⟨r, Eq.trans (Eq.symm ?_) hr⟩
    exact extractStridedSlice_apply ![0, 0] q Facts.slices_S16896x2048_S16384x2048_0_0 _ y fun a => match a with
      | ⟨0, _⟩ => (Nat.zero_add _).symm
      | ⟨1, _⟩ => (Nat.zero_add _).symm
  · intro y hy
    have e := Host.reduce_andi_all _ _ _ _ _ hk y
    exact real_of_abs e

end Cert.Pre_finite_scores.Att

end
-- ==== Proof.Proj.lean ====
module

public import proofs.«01_k».proof.Proof.Attn

@[expose] public section

noncomputable section

namespace Cert.Proj

open Idealize.ShloMosaic Cert.Soft
open scoped BigOperators

/-! # The two projections as formulas over the whole arrays -/

/-- An entry of the modulation table, at a condition and a column; outside the table, zero. -/
def md (x : (⟨3, ![3, 1, 6144]⟩ : Shape).Idx → EReal) (b j : ℕ) : EReal :=
  if h : b < 3 ∧ j < 6144 then x (ix3 ⟨b, h.1⟩ 0 ⟨j, h.2⟩) else 0

theorem md_of (x : (⟨3, ![3, 1, 6144]⟩ : Shape).Idx → EReal) (y : (⟨3, ![3, 1, 6144]⟩ : Shape).Idx) (b j : ℕ)
    (h0 : (y 0).val = b) (h2 : (y 2).val = j) : x y = md x b j := by
  subst h0 h2
  unfold md
  rw [dif_pos ⟨(y 0).isLt, (y 2).isLt⟩]
  refine congrArg x (funext fun a => Fin.ext ?_)
  match a with
  | ⟨0, _⟩ => rfl
  | ⟨1, _⟩ =>
    have h1 : (y 1).val < 1 := (y 1).isLt
    show (y 1).val = 0
    omega
  | ⟨2, _⟩ => rfl

/-- The gain of column `k`. -/
def gn (g : (⟨1, ![1024]⟩ : Shape).Idx → EReal) (k : Fin 1024) : EReal := g fun a => match a with | ⟨0, _⟩ => k

theorem gn_of (g : (⟨1, ![1024]⟩ : Shape).Idx → EReal) (y : (⟨1, ![1024]⟩ : Shape).Idx) (k : Fin 1024)
    (h : (y 0).val = k.val) : g y = gn g k := by
  unfold gn
  exact congrArg g (funext fun a => match a with | ⟨0, _⟩ => Fin.ext h)

/-- A row over its root mean square, times the gain, scaled by one more than `sc` and shifted by `sh`. -/
def normed (X g sc sh : Fin 1024 → EReal) (k : Fin 1024) : EReal :=
  X k * Ideal.rsqrt (Ideal.div (∑ j : Fin 1024, X j * X j) (Ideal.ofBits .f32 0x44800000#32) + Ideal.ofBits .f32 0x358637BD#32) * g k
    * (Ideal.ofBits .f32 0x3F800000#32 + sc k) + sh k

/-- Row `R` of the latents followed by the context rows. -/
def rowOf (xl : (⟨2, ![16384, 1024]⟩ : Shape).Idx → EReal) (xc : (⟨2, ![512, 1024]⟩ : Shape).Idx → EReal) (R : ℕ) (k : Fin 1024) : EReal :=
  if R < 16384 then rd xl R k.val else rd xc (R - 16384) k.val

/-- Entry `k` of the normed and modulated row `R`: the latents take their batch's condition, the context rows the third. -/
def hrow (xl : (⟨2, ![16384, 1024]⟩ : Shape).Idx → EReal) (xc : (⟨2, ![512, 1024]⟩ : Shape).Idx → EReal)
    (mo : (⟨3, ![3, 1, 6144]⟩ : Shape).Idx → EReal) (g : (⟨1, ![1024]⟩ : Shape).Idx → EReal) (R : ℕ) : Fin 1024 → EReal :=
  normed (rowOf xl xc R) (gn g) (fun k => md mo (R / 8192) (1024 + k.val)) (fun k => md mo (R / 8192) k.val)

/-- Entry `(R, C)` of the input projection; a column past the last is zero. -/
def evenIn (xl : (⟨2, ![16384, 1024]⟩ : Shape).Idx → EReal) (xc : (⟨2, ![512, 1024]⟩ : Shape).Idx → EReal)
    (mo : (⟨3, ![3, 1, 6144]⟩ : Shape).Idx → EReal) (g : (⟨1, ![1024]⟩ : Shape).Idx → EReal)
    (w : (⟨2, ![1024, 3616]⟩ : Shape).Idx → EReal) (R C : ℕ) : EReal :=
  ∑ k : Fin 1024, hrow xl xc mo g R k * rd w k.val C

/-- Entry `(R, C)` of the attention's output projection, gated and added to the residual stream. -/
def attnOut (x : (⟨2, ![16896, 1024]⟩ : Shape).Idx → EReal) (mo : (⟨3, ![3, 1, 6144]⟩ : Shape).Idx → EReal)
    (o : (⟨2, ![16384, 1024]⟩ : Shape).Idx → EReal) (w : (⟨2, ![1024, 1024]⟩ : Shape).Idx → EReal) (R C : ℕ) : EReal :=
  rd x R C + md mo (R / 8192) (2048 + C) * ∑ k : Fin 1024, rd o R k.val * rd w k.val C

end Cert.Proj

end
-- ==== Proof.InValue.lean ====
module

public import proofs.«01_k».proof.Proof.Proj
public import proofs.«01_k».proof.Proof.Gen.Kernel2Ideal.Value
public import Idealize.ShloMosaic.Lib.Pipeline.ValueKit
public import Idealize.ShloMosaic.Lib.KernelVsHost

@[expose] public section

set_option maxRecDepth 16384

noncomputable section

namespace Cert.Kernel2Ideal.Att

open Cert.Kernel2Ideal Cert.Kernel2Ideal.Gen Cert.Soft Cert.Proj
open Idealize.ShloMosaic Idealize.ShloMosaic.TcCoe
open scoped BigOperators

/-! # The arrays the input projection leaves -/

/-! ## The block's values -/

/-- The normed and modulated row of the block of latents or context rows chosen by the point. -/
theorem pay3_at (i : grid0.Coords) (v1 v2 : Vec Ideal S512x1024 .f32) (v4 : Vec Ideal S1x1024 .f32) (v6 : Vec Ideal S1x1x6144 .f32)
    (r : Fin 512) (k : Fin 1024) :
    k0_pay3 i v1 v2 v4 v6 (ix2 r k)
      = normed (fun j => (Scalar.select (Scalar.cmpi .slt (BitVec.ofNat 32 (i 0).val) 32#32) v1 v2 : Vec Ideal S512x1024 .f32) (ix2 r j))
        (fun j => v4 (ix2 0 j)) (fun j => v6 (ix3 0 0 ⟨1024 + j.val, by omega⟩)) (fun j => v6 (ix3 0 0 ⟨j.val, by omega⟩)) k := by
  unfold k0_pay3 normed
  generalize (Scalar.select (Scalar.cmpi .slt (BitVec.ofNat 32 (i 0).val) 32#32) v1 v2 : Vec Ideal S512x1024 .f32) = x
  simp only [pointwise]
  simp

theorem pay4_at (i : grid0.Coords) (v1 v2 : Vec Ideal S512x1024 .f32) (v4 : Vec Ideal S1x1024 .f32) (v6 : Vec Ideal S1x1x6144 .f32)
    (w : Vec Ideal S1024x512 .bf16) (r : Fin 512) (l : Fin 512) :
    k0_pay4 i v1 v2 v4 v6 w (ix2 r l) = ∑ k : Fin 1024, k0_pay3 i v1 v2 v4 v6 (ix2 r k) * w (ix2 k l) := by
  unfold k0_pay4
  generalize k0_pay3 i v1 v2 v4 v6 = h
  simp only [pointwise]
  simp
theorem pay5_at (i : grid0.Coords) (v1 v2 : Vec Ideal S512x1024 .f32) (v4 : Vec Ideal S1x1024 .f32) (v6 : Vec Ideal S1x1x6144 .f32)
    (w : Vec Ideal S1024x1024 .bf16) (r : Fin 512) (l : Fin 1024) :
    k0_pay5 i v1 v2 v4 v6 w (ix2 r l) = ∑ k : Fin 1024, k0_pay3 i v1 v2 v4 v6 (ix2 r k) * w (ix2 k l) := by
  unfold k0_pay5
  generalize k0_pay3 i v1 v2 v4 v6 = h
  simp only [pointwise]
  simp
theorem pay1_at (h : FVec Ideal S512x1024 .bf16) (w : Vec Ideal S1024x2048 .bf16) (r : Fin 512) (l : Fin 2048) :
    k0_pay1 h w (ix2 r l) = ∑ k : Fin 1024, h (ix2 r k) * w (ix2 k l) := by
  unfold k0_pay1
  simp only [pointwise]
  simp
theorem pay2_at (h : FVec Ideal S512x1024 .bf16) (w : Vec Ideal S1024x128 .bf16) (r : Fin 512) (l : Fin 128) :
    k0_pay2 h w (ix2 r l) = ∑ k : Fin 1024, h (ix2 r k) * w (ix2 k l) := by
  unfold k0_pay2
  simp only [pointwise]
  simp

/-! ## What the call's own operations leave in the staged arrays -/

variable (m : (ℓ : Loc nD τ sig) → Buf (Elt Ideal) ℓ) (c : Dev nD) (t : Fin cfg0.N)

theorem V_g : V m c main_v9 = (broadcastInDim S1x1024 ![1] bcast_S1024_S1x1024_1 (m ((c : Thread nD τ).loc main_arg3)) : S1x1024.Idx → EReal) := by
  simp [V, hostOps0, hostOps0_1, hostOps0_2, StableHlo.after]
  rfl
theorem V_f : V m c main_v1 = (extractStridedSlice S1024x512 ![0, 0] (m ((c : Thread nD τ).loc main_arg4)) slices_S1024x3616_S1024x512_0_0 : S1024x512.Idx → EReal) := by
  simp [V, hostOps0, hostOps0_1, hostOps0_2, StableHlo.after]
  rfl
theorem V_z : V m c main_v3 = (extractStridedSlice S1024x1024 ![0, 512] (m ((c : Thread nD τ).loc main_arg4)) slices_S1024x3616_S1024x1024_0_512 : S1024x1024.Idx → EReal) := by
  simp [V, hostOps0, hostOps0_1, hostOps0_2, StableHlo.after]
  rfl
theorem V_x : V m c main_v5 = (extractStridedSlice S1024x2048 ![0, 1536] (m ((c : Thread nD τ).loc main_arg4)) slices_S1024x3616_S1024x2048_0_1536 : S1024x2048.Idx → EReal) := by
  simp [V, hostOps0, hostOps0_1, hostOps0_2, StableHlo.after]
  rfl
theorem V_d : V m c main_v8 = (pad S1024x128 ![0, 0] ![0, 96] ![0, 0]
    (extractStridedSlice S1024x32 ![0, 3584] (m ((c : Thread nD τ).loc main_arg4)) slices_S1024x3616_S1024x32_0_3584 : S1024x32.Idx → EReal)
    (sitofp (F := Ideal) .f32 (constantI S_ 32 0#32) : S_.Idx → EReal) pads_S1024x32_S1024x128_000_0960 h_S_ : S1024x128.Idx → EReal) := by
  simp [V, hostOps0, hostOps0_1, hostOps0_2, StableHlo.after]
  rfl

theorem V_g_at (y : S1x1024.Idx) (k : Fin 1024) (h : (y 1).val = k.val) : V m c main_v9 y = gn (m ((c : Thread nD τ).loc main_arg3)) k := by
  rw [V_g]
  simp only [pointwise]
  exact gn_of _ _ _ h
theorem V_f_at (y : S1024x512.Idx) (k l : ℕ) (h0 : (y 0).val = k) (h1 : (y 1).val = l) :
    V m c main_v1 y = rd (m ((c : Thread nD τ).loc main_arg4)) k l := by
  rw [V_f]
  simp only [pointwise]
  refine rd_of (m ((c : Thread nD τ).loc main_arg4)) _ _ _ ?_ ?_ <;> simp [h0, h1]
theorem V_z_at (y : S1024x1024.Idx) (k l : ℕ) (h0 : (y 0).val = k) (h1 : (y 1).val = l) :
    V m c main_v3 y = rd (m ((c : Thread nD τ).loc main_arg4)) k (512 + l) := by
  rw [V_z]
  simp only [pointwise]
  refine rd_of (m ((c : Thread nD τ).loc main_arg4)) _ _ _ ?_ ?_ <;> simp [h0, h1]
theorem V_x_at (y : S1024x2048.Idx) (k l : ℕ) (h0 : (y 0).val = k) (h1 : (y 1).val = l) :
    V m c main_v5 y = rd (m ((c : Thread nD τ).loc main_arg4)) k (1536 + l) := by
  rw [V_x]
  simp only [pointwise]
  refine rd_of (m ((c : Thread nD τ).loc main_arg4)) _ _ _ ?_ ?_ <;> simp [h0, h1]
theorem pad_lt (x : S1024x32.Idx → EReal) (v : S_.Idx → EReal) (y : S1024x128.Idx) (h : (y 1).val < 32) :
    pad S1024x128 ![0, 0] ![0, 96] ![0, 0] x v pads_S1024x32_S1024x128_000_0960 h_S_ y = x (ix2 (y 0) ⟨(y 1).val, h⟩) :=
  pad_apply_of_inside (s := S1024x32) (t := S1024x128) ![0, 0] ![0, 96] ![0, 0] x v pads_S1024x32_S1024x128_000_0960 h_S_ y (ix2 (y 0) ⟨(y 1).val, h⟩)
    (fun a => match a with
      | ⟨0, _⟩ => by show (y 0).val = 0 + (y 0).val * (0 + 1); omega
      | ⟨1, _⟩ => by show (y 1).val = 0 + (y 1).val * (0 + 1); omega)
theorem pad_ge (x : S1024x32.Idx → EReal) (v : S_.Idx → EReal) (y : S1024x128.Idx) (h : ¬ (y 1).val < 32) :
    pad S1024x128 ![0, 0] ![0, 96] ![0, 0] x v pads_S1024x32_S1024x128_000_0960 h_S_ y = v (Shape.Idx.first h_S_) :=
  pad_apply_of_not_inside (s := S1024x32) (t := S1024x128) ![0, 0] ![0, 96] ![0, 0] x v pads_S1024x32_S1024x128_000_0960 h_S_ y (1 : Fin 2) (fun hh => by
    have e : ((y 1).val - 0) / (0 + 1) < 32 := hh.2.2
    omega)
theorem V_d_at (y : S1024x128.Idx) (k l : ℕ) (h0 : (y 0).val = k) (h1 : (y 1).val = l) :
    V m c main_v8 y = rd (m ((c : Thread nD τ).loc main_arg4)) k (3584 + l) := by
  rw [V_d]
  by_cases h : (y 1).val < 32
  · refine (pad_lt _ _ y h).trans ?_
    simp only [pointwise]
    refine rd_of (m ((c : Thread nD τ).loc main_arg4)) _ _ _ ?_ ?_ <;> simp [h0, h1]
  · refine (pad_ge _ _ y h).trans ?_
    unfold rd
    rw [dif_neg (by omega)]
    show (((0#32 : BitVec 32).toInt : ℝ) : EReal) = 0
    simp

/-! ## The blocks, as parts of the arrays -/

theorem idx0 : ∀ t : Fin cfg0.N, win0_0.index t = ![min t.val 31, 0] := by decide +kernel
theorem idx1 : ∀ t : Fin cfg0.N, win0_1.index t = ![0, 0] := by decide +kernel
theorem idx2 : ∀ t : Fin cfg0.N, win0_2.index t = ![t.val / 16, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel

theorem blk0 (ht : t.val < 32) (r : Fin 512) (e : Fin 1024) :
    iblk m c 0 t (ix2 r e) = rd (m ((c : Thread nD τ).loc main_arg0)) (512 * t.val + r.val) e.val := by
  refine (congrFun (V_main_arg0 m c) _).trans (rd_of _ (((cfg0.win 0).blk t).view.emb (ix2 r e)) _ _ ?_ ?_)
  · blk_simp [idx0]
    simp; omega
  · blk_simp [idx0]
theorem blk1 (r : Fin 512) (e : Fin 1024) :
    iblk m c 1 t (ix2 r e) = rd (m ((c : Thread nD τ).loc main_arg1)) r.val e.val := by
  refine (congrFun (V_main_arg1 m c) _).trans (rd_of _ (((cfg0.win 1).blk t).view.emb (ix2 r e)) _ _ ?_ ?_)
  · blk_simp [idx1]
  · blk_simp [idx1]
theorem blk2 (e : Fin 6144) :
    iblk m c 2 t (ix3 0 0 e) = md (m ((c : Thread nD τ).loc main_arg2)) (t.val / 16) e.val := by
  refine (congrFun (V_main_arg2 m c) _).trans (md_of _ (((cfg0.win 2).blk t).view.emb (ix3 0 0 e)) _ _ ?_ ?_)
  · blk_simp [idx2]
    simp
  · blk_simp [idx2]
theorem blk3 (e : Fin 1024) : iblk m c 3 t (ix2 0 e) = gn (m ((c : Thread nD τ).loc main_arg3)) e := by
  refine V_g_at m c (((cfg0.win 3).blk t).view.emb (ix2 0 e)) _ ?_
  blk_simp [idx3]
theorem blk4 (k : Fin 1024) (l : Fin 512) : iblk m c 4 t (ix2 k l) = rd (m ((c : Thread nD τ).loc main_arg4)) k.val l.val := by
  refine V_f_at m c (((cfg0.win 4).blk t).view.emb (ix2 k l)) _ _ ?_ ?_ <;> blk_simp [idx4]
theorem blk5 (k : Fin 1024) (l : Fin 1024) : iblk m c 5 t (ix2 k l) = rd (m ((c : Thread nD τ).loc main_arg4)) k.val (512 + l.val) := by
  refine V_z_at m c (((cfg0.win 5).blk t).view.emb (ix2 k l)) _ _ ?_ ?_ <;> blk_simp [idx5]
theorem blk6 (k : Fin 1024) (l : Fin 2048) : iblk m c 6 t (ix2 k l) = rd (m ((c : Thread nD τ).loc main_arg4)) k.val (1536 + l.val) := by
  refine V_x_at m c (((cfg0.win 6).blk t).view.emb (ix2 k l)) _ _ ?_ ?_ <;> blk_simp [idx6]
theorem blk7 (k : Fin 1024) (l : Fin 128) : iblk m c 7 t (ix2 k l) = rd (m ((c : Thread nD τ).loc main_arg4)) k.val (3584 + l.val) := by
  refine V_d_at m c (((cfg0.win 7).blk t).view.emb (ix2 k l)) _ _ ?_ ?_ <;> blk_simp [idx7]

/-- The point takes the block of latents before the last point, where it takes the context rows. -/
theorem cond_at : ∀ t : Fin cfg0.N, Scalar.cmpi .slt (BitVec.ofNat 32 (grid0.coords t 0).val) 32#32 = if t.val < 32 then 1#1 else 0#1 := by
  decide +kernel

theorem row_at (r : Fin 512) (k : Fin 1024) :
    (Scalar.select (Scalar.cmpi .slt (BitVec.ofNat 32 (grid0.coords t 0).val) 32#32) (iblk m c 0 t) (iblk m c 1 t) : Vec Ideal S512x1024 .f32) (ix2 r k)
      = rowOf (m ((c : Thread nD τ).loc main_arg0)) (m ((c : Thread nD τ).loc main_arg1)) (512 * t.val + r.val) k := by
  have ht : t.val < 33 := t.isLt
  have hr := r.isLt
  rw [cond_at]
  unfold rowOf Scalar.select
  by_cases h : t.val < 32
  · rw [if_pos h, if_pos (show 512 * t.val + r.val < 16384 by omega)]
    exact blk0 m c t h r k
  · rw [if_neg h, if_neg (show ¬ 512 * t.val + r.val < 16384 by omega), show 512 * t.val + r.val - 16384 = r.val by omega]
    exact blk1 m c t r k

theorem hrow_at (r : Fin 512) (k : Fin 1024) :
    k0_pay3 (grid0.coords t) (iblk m c 0 t) (iblk m c 1 t) (iblk m c 3 t) (iblk m c 2 t) (ix2 r k)
      = hrow (m ((c : Thread nD τ).loc main_arg0)) (m ((c : Thread nD τ).loc main_arg1)) (m ((c : Thread nD τ).loc main_arg2))
        (m ((c : Thread nD τ).loc main_arg3)) (512 * t.val + r.val) k := by
  have ht : t.val < 33 := t.isLt
  have hr := r.isLt
  rw [pay3_at]
  unfold hrow
  rw [show (512 * t.val + r.val) / 8192 = t.val / 16 by omega]
  congr 1
  · exact funext fun j => row_at m c t r j
  · exact funext fun j => blk3 m c t j
  · exact funext fun j => blk2 m c t _
  · exact funext fun j => blk2 m c t _

/-! ## The four arrays -/

theorem out8_at (r : Fin 512) (e : Fin 512) :
    out0_8 (grid0.coords t) (iblk m c 0 t) (iblk m c 1 t) (iblk m c 2 t) (iblk m c 3 t) (iblk m c 4 t) (iblk m c 5 t) (iblk m c 6 t) (iblk m c 7 t) (ix2 r e)
      = evenIn (m ((c : Thread nD τ).loc main_arg0)) (m ((c : Thread nD τ).loc main_arg1)) (m ((c : Thread nD τ).loc main_arg2))
        (m ((c : Thread nD τ).loc main_arg3)) (m ((c : Thread nD τ).loc main_arg4)) (512 * t.val + r.val) e.val := by
  unfold out0_8 evenIn
  rw [View.canon_cons_unit_lit, View.ld_unit_lit, View.ld_unit_lit, View.ld_unit_lit, View.ld_unit_lit, View.ld_unit_lit]
  rw [pay4_at]
  refine Finset.sum_congr rfl fun k _ => ?_
  · rw [hrow_at, blk4]
  all_goals decide

theorem covers8 : (cfg0.win 8).Covers := by decide +kernel

/-- Its columns of the projection, as an array. -/
def arr8 (xl : S16384x1024.Idx → EReal) (xc : S512x1024.Idx → EReal) (mo : S3x1x6144.Idx → EReal) (g : S1024.Idx → EReal)
    (w : S1024x3616.Idx → EReal) : S16896x512.Idx → EReal := fun y => evenIn xl xc mo g w (y 0).val (y 1).val

theorem arr8_emb (xl : S16384x1024.Idx → EReal) (xc : S512x1024.Idx → EReal) (mo : S3x1x6144.Idx → EReal) (g : S1024.Idx → EReal)
    (w : S1024x3616.Idx → EReal) (y : S512x512.Idx) :
    arr8 xl xc mo g w (((cfg0.win 8).blk t).view.emb y) = evenIn xl xc mo g w (512 * t.val + (y 0).val) (y 1).val := by
  unfold arr8
  have e0 : ((((cfg0.win 8).blk t).view.emb y) 0).val = 512 * t.val + (y 0).val := by
    blk_simp [idx8]
    simp; omega
  have e1 : ((((cfg0.win 8).blk t).view.emb y) 1).val = (y 1).val := by
    blk_simp [idx8]
  exact congrArg₂ (fun R C => evenIn xl xc mo g w R C) e0 e1

theorem pair8 (z : S512x512.Idx) : z = ix2 (z 0) (z 1) :=
  funext fun a => match a with | ⟨0, _⟩ => rfl | ⟨1, _⟩ => rfl

theorem out8_eq : (dats m 0 c).arrAt 8 cfg0.N
    = arr8 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ covers8 fun t hf y => ?_
  blk_simp
  rw [after0_8]
  exact ((congrArg _ (pair8 y)).trans (out8_at m c t (y 0) (y 1))).trans (arr8_emb t _ _ _ _ _ y).symm

theorem out9_at (r : Fin 512) (e : Fin 1024) :
    out0_9 (grid0.coords t) (iblk m c 0 t) (iblk m c 1 t) (iblk m c 2 t) (iblk m c 3 t) (iblk m c 4 t) (iblk m c 5 t) (iblk m c 6 t) (iblk m c 7 t) (ix2 r e)
      = evenIn (m ((c : Thread nD τ).loc main_arg0)) (m ((c : Thread nD τ).loc main_arg1)) (m ((c : Thread nD τ).loc main_arg2))
        (m ((c : Thread nD τ).loc main_arg3)) (m ((c : Thread nD τ).loc main_arg4)) (512 * t.val + r.val) (512 + e.val) := by
  unfold out0_9 evenIn
  rw [View.canon_cons_unit_lit, View.ld_unit_lit, View.ld_unit_lit, View.ld_unit_lit, View.ld_unit_lit, View.ld_unit_lit]
  rw [pay5_at]
  refine Finset.sum_congr rfl fun k _ => ?_
  · rw [hrow_at, blk5]
  all_goals decide

theorem covers9 : (cfg0.win 9).Covers := by decide +kernel

/-- Its columns of the projection, as an array. -/
def arr9 (xl : S16384x1024.Idx → EReal) (xc : S512x1024.Idx → EReal) (mo : S3x1x6144.Idx → EReal) (g : S1024.Idx → EReal)
    (w : S1024x3616.Idx → EReal) : S16896x1024.Idx → EReal := fun y => evenIn xl xc mo g w (y 0).val (512 + (y 1).val)

theorem arr9_emb (xl : S16384x1024.Idx → EReal) (xc : S512x1024.Idx → EReal) (mo : S3x1x6144.Idx → EReal) (g : S1024.Idx → EReal)
    (w : S1024x3616.Idx → EReal) (y : S512x1024.Idx) :
    arr9 xl xc mo g w (((cfg0.win 9).blk t).view.emb y) = evenIn xl xc mo g w (512 * t.val + (y 0).val) (512 + (y 1).val) := by
  unfold arr9
  have e0 : ((((cfg0.win 9).blk t).view.emb y) 0).val = 512 * t.val + (y 0).val := by
    blk_simp [idx9]
    simp; omega
  have e1 : ((((cfg0.win 9).blk t).view.emb y) 1).val = (y 1).val := by
    blk_simp [idx9]
  exact congrArg₂ (fun R C => evenIn xl xc mo g w R (512 + C)) e0 e1

theorem pair9 (z : S512x1024.Idx) : z = ix2 (z 0) (z 1) :=
  funext fun a => match a with | ⟨0, _⟩ => rfl | ⟨1, _⟩ => rfl

theorem out9_eq : (dats m 0 c).arrAt 9 cfg0.N
    = arr9 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 9 _ covers9 fun t hf y => ?_
  blk_simp
  rw [after0_9]
  exact ((congrArg _ (pair9 y)).trans (out9_at m c t (y 0) (y 1))).trans (arr9_emb t _ _ _ _ _ y).symm

theorem out10_at (r : Fin 512) (e : Fin 2048) :
    out0_10 (grid0.coords t) (iblk m c 0 t) (iblk m c 1 t) (iblk m c 2 t) (iblk m c 3 t) (iblk m c 4 t) (iblk m c 5 t) (iblk m c 6 t) (iblk m c 7 t) (ix2 r e)
      = evenIn (m ((c : Thread nD τ).loc main_arg0)) (m ((c : Thread nD τ).loc main_arg1)) (m ((c : Thread nD τ).loc main_arg2))
        (m ((c : Thread nD τ).loc main_arg3)) (m ((c : Thread nD τ).loc main_arg4)) (512 * t.val + r.val) (1536 + e.val) := by
  unfold out0_10 k0_pay6 evenIn
  rw [View.canon_cons_unit_lit, View.ld_unit_lit, View.ld_unit_lit, View.ld_unit_lit, View.ld_unit_lit, View.ld_unit_lit]
  rw [pay1_at]
  refine Finset.sum_congr rfl fun k _ => ?_
  · rw [hrow_at, blk6]
  all_goals decide

theorem covers10 : (cfg0.win 10).Covers := by decide +kernel

/-- Its columns of the projection, as an array. -/
def arr10 (xl : S16384x1024.Idx → EReal) (xc : S512x1024.Idx → EReal) (mo : S3x1x6144.Idx → EReal) (g : S1024.Idx → EReal)
    (w : S1024x3616.Idx → EReal) : S16896x2048.Idx → EReal := fun y => evenIn xl xc mo g w (y 0).val (1536 + (y 1).val)

theorem arr10_emb (xl : S16384x1024.Idx → EReal) (xc : S512x1024.Idx → EReal) (mo : S3x1x6144.Idx → EReal) (g : S1024.Idx → EReal)
    (w : S1024x3616.Idx → EReal) (y : S512x2048.Idx) :
    arr10 xl xc mo g w (((cfg0.win 10).blk t).view.emb y) = evenIn xl xc mo g w (512 * t.val + (y 0).val) (1536 + (y 1).val) := by
  unfold arr10
  have e0 : ((((cfg0.win 10).blk t).view.emb y) 0).val = 512 * t.val + (y 0).val := by
    blk_simp [idx10]
    simp; omega
  have e1 : ((((cfg0.win 10).blk t).view.emb y) 1).val = (y 1).val := by
    blk_simp [idx10]
  exact congrArg₂ (fun R C => evenIn xl xc mo g w R (1536 + C)) e0 e1

theorem pair10 (z : S512x2048.Idx) : z = ix2 (z 0) (z 1) :=
  funext fun a => match a with | ⟨0, _⟩ => rfl | ⟨1, _⟩ => rfl

theorem out10_eq : (dats m 0 c).arrAt 10 cfg0.N
    = arr10 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 10 _ covers10 fun t hf y => ?_
  blk_simp
  rw [after0_10]
  exact ((congrArg _ (pair10 y)).trans (out10_at m c t (y 0) (y 1))).trans (arr10_emb t _ _ _ _ _ y).symm

theorem out11_at (r : Fin 512) (e : Fin 128) :
    out0_11 (grid0.coords t) (iblk m c 0 t) (iblk m c 1 t) (iblk m c 2 t) (iblk m c 3 t) (iblk m c 4 t) (iblk m c 5 t) (iblk m c 6 t) (iblk m c 7 t) (ix2 r e)
      = evenIn (m ((c : Thread nD τ).loc main_arg0)) (m ((c : Thread nD τ).loc main_arg1)) (m ((c : Thread nD τ).loc main_arg2))
        (m ((c : Thread nD τ).loc main_arg3)) (m ((c : Thread nD τ).loc main_arg4)) (512 * t.val + r.val) (3584 + e.val) := by
  unfold out0_11 k0_pay6 evenIn
  rw [View.canon_cons_unit_lit, View.ld_unit_lit, View.ld_unit_lit, View.ld_unit_lit, View.ld_unit_lit, View.ld_unit_lit]
  rw [pay2_at]
  refine Finset.sum_congr rfl fun k _ => ?_
  · rw [hrow_at, blk7]
  all_goals decide

theorem covers11 : (cfg0.win 11).Covers := by decide +kernel

/-- Its columns of the projection, as an array. -/
def arr11 (xl : S16384x1024.Idx → EReal) (xc : S512x1024.Idx → EReal) (mo : S3x1x6144.Idx → EReal) (g : S1024.Idx → EReal)
    (w : S1024x3616.Idx → EReal) : S16896x128.Idx → EReal := fun y => evenIn xl xc mo g w (y 0).val (3584 + (y 1).val)

theorem arr11_emb (xl : S16384x1024.Idx → EReal) (xc : S512x1024.Idx → EReal) (mo : S3x1x6144.Idx → EReal) (g : S1024.Idx → EReal)
    (w : S1024x3616.Idx → EReal) (y : S512x128.Idx) :
    arr11 xl xc mo g w (((cfg0.win 11).blk t).view.emb y) = evenIn xl xc mo g w (512 * t.val + (y 0).val) (3584 + (y 1).val) := by
  unfold arr11
  have e0 : ((((cfg0.win 11).blk t).view.emb y) 0).val = 512 * t.val + (y 0).val := by
    blk_simp [idx11]
    simp; omega
  have e1 : ((((cfg0.win 11).blk t).view.emb y) 1).val = (y 1).val := by
    blk_simp [idx11]
  exact congrArg₂ (fun R C => evenIn xl xc mo g w R (3584 + C)) e0 e1

theorem pair11 (z : S512x128.Idx) : z = ix2 (z 0) (z 1) :=
  funext fun a => match a with | ⟨0, _⟩ => rfl | ⟨1, _⟩ => rfl

theorem out11_eq : (dats m 0 c).arrAt 11 cfg0.N
    = arr11 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 11 _ covers11 fun t hf y => ?_
  blk_simp
  rw [after0_11]
  exact ((congrArg _ (pair11 y)).trans (out11_at m c t (y 0) (y 1))).trans (arr11_emb t _ _ _ _ _ y).symm

end Cert.Kernel2Ideal.Att

end
-- ==== Proof.InRef.lean ====
module

public import proofs.«01_k».proof.Proof.Proj
public import proofs.«01_k».proof.Proof.Gen.Reference2Ideal.Read
public import Idealize.ShloMosaic.Lib.KernelVsHost

@[expose] public section

noncomputable section

namespace Cert.Reference2Ideal.Att

open Cert.Reference2Ideal Cert.Reference2Ideal.Gen Cert.Reference2Ideal.Read Cert.Soft Cert.Proj
open Idealize.ShloMosaic Idealize.ShloMosaic.TcCoe
open scoped BigOperators

/-! # The reference's input projection -/

variable (x0 : (⟨S16384x1024, .f32⟩ : BufTy).Contents (Elt Ideal)) (x1 : (⟨S512x1024, .f32⟩ : BufTy).Contents (Elt Ideal))
  (x2 : (⟨S3x1x6144, .f32⟩ : BufTy).Contents (Elt Ideal)) (x3 : (⟨S1024, .f32⟩ : BufTy).Contents (Elt Ideal))
  (x4 : (⟨S1024x3616, .f32⟩ : BufTy).Contents (Elt Ideal))

theorem zero_bits : (Ideal.ofBits .f32 0x00000000#32 : EReal) = 0 := by simp [Ideal.ofBits, Ideal.ieee]

/-! ## The latents' rows -/

theorem v2_at (i : S2x8192x1024.Idx) : val_main_v2 (F := Ideal) x0 i = rd x0 (8192 * (i 0).val + (i 1).val) (i 2).val := by
  rw [val_main_v2_apply]
  have h2 : (i 2).val < 1024 := (i 2).isLt
  refine rd_of x0 _ _ _ ?_ ?_
  · show (((i 0).val * 8192 + (i 1).val) * 1024 + (i 2).val) / 1024 = _
    omega
  · show (((i 0).val * 8192 + (i 1).val) * 1024 + (i 2).val) % 1024 = _
    omega
theorem v12_at (i : S2x8192x1024.Idx) : val_main_v12 (F := Ideal) x0 i
    = Ideal.rsqrt (Ideal.div (∑ j : Fin 1024, rd x0 (8192 * (i 0).val + (i 1).val) j.val * rd x0 (8192 * (i 0).val + (i 1).val) j.val)
      (Ideal.ofBits .f32 0x44800000#32) + Ideal.ofBits .f32 0x358637BD#32) := by
  rw [val_main_v12_apply, val_main_v11_apply, val_main_v10_apply, val_main_v9_apply, val_main_v8_apply, val_main_v7_apply, val_main_v6_apply,
    val_main_v5_apply]
  show Ideal.rsqrt (Ideal.div (Ideal.ofBits .f32 0x00000000#32 + _) (Ideal.ofBits .f32 0x44800000#32) + Ideal.ofBits .f32 0x358637BD#32) = _
  rw [zero_bits, zero_add]
  refine congrArg (fun s => Ideal.rsqrt (Ideal.div s _ + _)) (Finset.sum_congr rfl fun k _ => ?_)
  rw [val_main_v4_apply]
  exact congrArg₂ (· * ·) (v2_at x0 _) (v2_at x0 _)
theorem v15_at (i : S2x8192x1024.Idx) : val_main_v15 (F := Ideal) x3 i = gn x3 (i 2) := by
  rw [val_main_v15_apply, val_main_v14_apply]
  exact gn_of x3 _ _ rfl
theorem v20_at (i : S2x8192x1024.Idx) : val_main_v20 (F := Ideal) x2 i = Ideal.ofBits .f32 0x3F800000#32 + md x2 (i 0).val (1024 + (i 2).val) := by
  rw [val_main_v20_apply, val_main_v19_apply, val_main_v18_apply, val_main_v17_apply, val_main_v1_apply]
  exact congrArg (Ideal.ofBits .f32 0x3F800000#32 + ·) (md_of x2 _ _ _ rfl rfl)
theorem v23_at (i : S2x8192x1024.Idx) : val_main_v23 (F := Ideal) x2 i = md x2 (i 0).val (i 2).val := by
  rw [val_main_v23_apply, val_main_v22_apply, val_main_v0_apply]
  exact md_of x2 _ _ _ rfl rfl
theorem v24_at (i : S2x8192x1024.Idx) : val_main_v24 (F := Ideal) x0 x2 x3 i
    = normed (fun k => rd x0 (8192 * (i 0).val + (i 1).val) k.val) (gn x3) (fun k => md x2 (i 0).val (1024 + k.val)) (fun k => md x2 (i 0).val k.val) (i 2) := by
  rw [val_main_v24_apply, val_main_v21_apply, val_main_v16_apply, val_main_v13_apply, v2_at, v12_at, v15_at, v20_at, v23_at]
  rfl

/-! ## The context's rows -/

theorem v3_at (i : S2x256x1024.Idx) : val_main_v3 (F := Ideal) x1 i = rd x1 (256 * (i 0).val + (i 1).val) (i 2).val := by
  rw [val_main_v3_apply]
  have h2 : (i 2).val < 1024 := (i 2).isLt
  refine rd_of x1 _ _ _ ?_ ?_
  · show (((i 0).val * 256 + (i 1).val) * 1024 + (i 2).val) / 1024 = _
    omega
  · show (((i 0).val * 256 + (i 1).val) * 1024 + (i 2).val) % 1024 = _
    omega
theorem v33_at (i : S2x256x1024.Idx) : val_main_v33 (F := Ideal) x1 i
    = Ideal.rsqrt (Ideal.div (∑ j : Fin 1024, rd x1 (256 * (i 0).val + (i 1).val) j.val * rd x1 (256 * (i 0).val + (i 1).val) j.val)
      (Ideal.ofBits .f32 0x44800000#32) + Ideal.ofBits .f32 0x358637BD#32) := by
  rw [val_main_v33_apply, val_main_v32_apply, val_main_v31_apply, val_main_v30_apply, val_main_v29_apply, val_main_v28_apply, val_main_v27_apply,
    val_main_v26_apply]
  show Ideal.rsqrt (Ideal.div (Ideal.ofBits .f32 0x00000000#32 + _) (Ideal.ofBits .f32 0x44800000#32) + Ideal.ofBits .f32 0x358637BD#32) = _
  rw [zero_bits, zero_add]
  refine congrArg (fun s => Ideal.rsqrt (Ideal.div s _ + _)) (Finset.sum_congr rfl fun k _ => ?_)
  rw [val_main_v25_apply]
  exact congrArg₂ (· * ·) (v3_at x1 _) (v3_at x1 _)
theorem v36_at (i : S2x256x1024.Idx) : val_main_v36 (F := Ideal) x3 i = gn x3 (i 2) := by
  rw [val_main_v36_apply, val_main_v35_apply]
  exact gn_of x3 _ _ rfl
theorem v43_at (i : S2x256x1024.Idx) : val_main_v43 (F := Ideal) x2 i = Ideal.ofBits .f32 0x3F800000#32 + md x2 2 (1024 + (i 2).val) := by
  have h2 : (i 2).val < 1024 := (i 2).isLt
  rw [val_main_v43_apply, val_main_v42_apply, val_main_v41_apply, val_main_v40_apply, val_main_v39_apply, val_main_v38_apply, val_main_v1_apply]
  refine congrArg (Ideal.ofBits .f32 0x3F800000#32 + ·) (md_of x2 _ _ _ ?_ ?_)
  · rfl
  · simp
    exact h2
theorem v48_at (i : S2x256x1024.Idx) : val_main_v48 (F := Ideal) x2 i = md x2 2 (i 2).val := by
  have h2 : (i 2).val < 1024 := (i 2).isLt
  rw [val_main_v48_apply, val_main_v47_apply, val_main_v46_apply, val_main_v45_apply, val_main_v0_apply]
  refine md_of x2 _ _ _ ?_ ?_
  · rfl
  · simp
    exact h2
theorem v49_at (i : S2x256x1024.Idx) : val_main_v49 (F := Ideal) x1 x2 x3 i
    = normed (fun k => rd x1 (256 * (i 0).val + (i 1).val) k.val) (gn x3) (fun k => md x2 2 (1024 + k.val)) (fun k => md x2 2 k.val) (i 2) := by
  rw [val_main_v49_apply, val_main_v44_apply, val_main_v37_apply, val_main_v34_apply, v3_at, v33_at, v36_at, v43_at, v48_at]
  rfl

/-! ## All rows, and the projection -/

theorem v50_at (i : S16384x1024.Idx) : val_main_v50 (F := Ideal) x0 x2 x3 i = hrow x0 x1 x2 x3 (i 0).val (i 1) := by
  rw [val_main_v50_apply, v24_at]
  have h0 : (i 0).val < 16384 := (i 0).isLt
  have h1 : (i 1).val < 1024 := (i 1).isLt
  have e0 : (idx_main_v50 i 0).val = (i 0).val / 8192 := by
    show ((i 0).val * 1024 + (i 1).val) / 8388608 = _
    omega
  have e1 : 8192 * (idx_main_v50 i 0).val + (idx_main_v50 i 1).val = (i 0).val := by
    show 8192 * (((i 0).val * 1024 + (i 1).val) / 8388608) + ((i 0).val * 1024 + (i 1).val) / 1024 % 8192 = _
    omega
  have e2 : idx_main_v50 i 2 = i 1 := Fin.ext (by
    show ((i 0).val * 1024 + (i 1).val) % 1024 = _
    omega)
  rw [e1, e0, e2]
  unfold hrow rowOf
  simp only [if_pos h0]
theorem v51_at (i : S512x1024.Idx) : val_main_v51 (F := Ideal) x1 x2 x3 i = hrow x0 x1 x2 x3 (16384 + (i 0).val) (i 1) := by
  rw [val_main_v51_apply, v49_at]
  have h0 : (i 0).val < 512 := (i 0).isLt
  have h1 : (i 1).val < 1024 := (i 1).isLt
  have e1 : 256 * (idx_main_v51 i 0).val + (idx_main_v51 i 1).val = (i 0).val := by
    show 256 * (((i 0).val * 1024 + (i 1).val) / 262144) + ((i 0).val * 1024 + (i 1).val) / 1024 % 256 = _
    omega
  have e2 : idx_main_v51 i 2 = i 1 := Fin.ext (by
    show ((i 0).val * 1024 + (i 1).val) % 1024 = _
    omega)
  rw [e1, e2]
  unfold hrow rowOf
  simp only [if_neg (show ¬ 16384 + (i 0).val < 16384 by omega), show (16384 + (i 0).val) / 8192 = 2 by omega, Nat.add_sub_cancel_left]
theorem v52_at (i : S16896x1024.Idx) : val_main_v52 (F := Ideal) x0 x1 x2 x3 i = hrow x0 x1 x2 x3 (i 0).val (i 1) := by
  have h0 : (i 0).val < 16896 := (i 0).isLt
  unfold val_main_v52
  by_cases h : (i 0).val < 16384
  · exact (concatenate_pair_apply_left (s₁ := S16384x1024) (s₂ := S512x1024) (t := S16896x1024) 0 _ _ concatenates_S16384x1024_S512x1024_S16896x1024_d0 i rfl
      (ix2 ⟨(i 0).val, h⟩ (i 1)) (fun b => match b with | ⟨0, _⟩ => rfl | ⟨1, _⟩ => rfl)).trans (v50_at x0 x1 x2 x3 _)
  · refine (concatenate_pair_apply_right (s₁ := S16384x1024) (s₂ := S512x1024) (t := S16896x1024) 0 _ _ concatenates_S16384x1024_S512x1024_S16896x1024_d0 i rfl rfl
      (ix2 ⟨(i 0).val - 16384, by omega⟩ (i 1)) (fun b => match b with | ⟨0, _⟩ => fun hb => absurd rfl hb | ⟨1, _⟩ => fun _ => rfl)
      (by show (i 0).val - 16384 + 16384 = (i 0).val; omega)).trans ((v51_at x0 x1 x2 x3 _).trans ?_)
    exact congrArg (fun R => hrow x0 x1 x2 x3 R (i 1)) (show 16384 + ((i 0).val - 16384) = (i 0).val by omega)
theorem v53_at (i : S16896x3616.Idx) : val_main_v53 (F := Ideal) x0 x1 x2 x3 x4 i = evenIn x0 x1 x2 x3 x4 (i 0).val (i 1).val := by
  rw [val_main_v53_apply]
  exact Finset.sum_congr rfl fun k _ => congrArg₂ (· * ·) (v52_at x0 x1 x2 x3 _) (rd_of x4 _ _ _ rfl rfl)

/-! ## The four results -/

theorem v54_at (y : S16896x512.Idx) : val_main_v54 (F := Ideal) x0 x1 x2 x3 x4 y = evenIn x0 x1 x2 x3 x4 (y 0).val (y 1).val := by
  rw [val_main_v54_apply, v53_at]
theorem v55_at (y : S16896x1024.Idx) : val_main_v55 (F := Ideal) x0 x1 x2 x3 x4 y = evenIn x0 x1 x2 x3 x4 (y 0).val (512 + (y 1).val) := by
  rw [val_main_v55_apply, v53_at]
theorem v56_at (y : S16896x2048.Idx) : val_main_v56 (F := Ideal) x0 x1 x2 x3 x4 y = evenIn x0 x1 x2 x3 x4 (y 0).val (1536 + (y 1).val) := by
  rw [val_main_v56_apply, v53_at]
theorem v57_at (y : S16896x32.Idx) : val_main_v57 (F := Ideal) x0 x1 x2 x3 x4 y = evenIn x0 x1 x2 x3 x4 (y 0).val (3584 + (y 1).val) := by
  rw [val_main_v57_apply, v53_at]

theorem evenIn_past (R C : ℕ) (h : 3616 ≤ C) : evenIn x0 x1 x2 x3 x4 R C = 0 := by
  unfold evenIn
  refine Finset.sum_eq_zero fun k _ => ?_
  unfold rd
  rw [dif_neg (by omega), mul_zero]

theorem v58_at (y : S16896x128.Idx) : val_main_v58 (F := Ideal) x0 x1 x2 x3 x4 y = evenIn x0 x1 x2 x3 x4 (y 0).val (3584 + (y 1).val) := by
  unfold val_main_v58
  by_cases h : (y 1).val < 32
  · refine (pad_apply_of_inside (s := S16896x32) (t := S16896x128) ![0, 0] ![0, 96] ![0, 0] _ _ pads_S16896x32_S16896x128_000_0960 h_S_ y
      (ix2 (y 0) ⟨(y 1).val, h⟩) (fun a => match a with
        | ⟨0, _⟩ => by show (y 0).val = 0 + (y 0).val * (0 + 1); omega
        | ⟨1, _⟩ => by show (y 1).val = 0 + (y 1).val * (0 + 1); omega)).trans ?_
    exact v57_at x0 x1 x2 x3 x4 _
  · refine (pad_apply_of_not_inside (s := S16896x32) (t := S16896x128) ![0, 0] ![0, 96] ![0, 0] _ _ pads_S16896x32_S16896x128_000_0960 h_S_ y (1 : Fin 2) (fun hh => by
      have e : ((y 1).val - 0) / (0 + 1) < 32 := hh.2.2
      omega)).trans ?_
    rw [evenIn_past _ _ _ _ _ _ _ (by omega)]
    show (((0#32 : BitVec 32).toInt : ℝ) : EReal) = 0
    simp

end Cert.Reference2Ideal.Att

end
-- ==== Proof.OutValue.lean ====
module

public import proofs.«01_k».proof.Proof.Proj
public import proofs.«01_k».proof.Proof.Gen.Kernel3Ideal.Value
public import Idealize.ShloMosaic.Lib.Pipeline.ValueKit

@[expose] public section

set_option maxRecDepth 16384

noncomputable section

namespace Cert.Kernel3Ideal.Att

open Cert.Kernel3Ideal Cert.Kernel3Ideal.Gen Cert.Soft Cert.Proj
open Idealize.ShloMosaic Idealize.ShloMosaic.TcCoe
open scoped BigOperators

/-! # The array the attention's output projection leaves -/

theorem pay1_at (v0 : Vec Ideal S1x1x6144 .f32) (v3 : Vec Ideal S512x1024 .f32) (v4 : Vec Ideal S512x1024 .bf16) (v5 : Vec Ideal S1024x1024 .bf16)
    (r : Fin 512) (c : Fin 1024) :
    k0_pay1 v0 v3 v4 v5 (ix2 r c) = v3 (ix2 r c) + v0 (ix3 0 0 ⟨2048 + c.val, by omega⟩) * ∑ k : Fin 1024, v4 (ix2 r k) * v5 (ix2 k c) := by
  unfold k0_pay1
  simp only [pointwise]
  simp

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val / 16, 0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel

variable (c : Dev nD) (t : Fin cfg0.N)

theorem V_w : V m c main_v0 = m ((c : Thread nD τ).loc main_arg3) := by
  simp [V, hostOps0, StableHlo.after]
  rfl

theorem blk0 (r : Fin 512) (e : Fin 1024) :
    iblk m c 0 t (ix2 r e) = rd (m ((c : Thread nD τ).loc main_arg0)) (512 * t.val + r.val) e.val := by
  refine (congrFun (V_main_arg0 m c) _).trans (rd_of _ (((cfg0.win 0).blk t).view.emb (ix2 r e)) _ _ ?_ ?_)
  · blk_simp [idx0]
    simp; omega
  · blk_simp [idx0]
theorem blk1 (e : Fin 6144) :
    iblk m c 1 t (ix3 0 0 e) = md (m ((c : Thread nD τ).loc main_arg1)) (t.val / 16) e.val := by
  refine (congrFun (V_main_arg1 m c) _).trans (md_of _ (((cfg0.win 1).blk t).view.emb (ix3 0 0 e)) _ _ ?_ ?_)
  · blk_simp [idx1]
    simp
  · blk_simp [idx1]
theorem blk2 (r : Fin 512) (e : Fin 1024) :
    iblk m c 2 t (ix2 r e) = rd (m ((c : Thread nD τ).loc main_arg2)) (512 * t.val + r.val) e.val := by
  refine (congrFun (V_main_arg2 m c) _).trans (rd_of _ (((cfg0.win 2).blk t).view.emb (ix2 r e)) _ _ ?_ ?_)
  · blk_simp [idx2]
    simp; omega
  · blk_simp [idx2]
theorem blk3 (r : Fin 1024) (e : Fin 1024) :
    iblk m c 3 t (ix2 r e) = rd (m ((c : Thread nD τ).loc main_arg3)) r.val e.val := by
  refine (congrFun (V_w m c) _).trans (rd_of _ (((cfg0.win 3).blk t).view.emb (ix2 r e)) _ _ ?_ ?_)
  · blk_simp [idx3]
  · blk_simp [idx3]

theorem out_at (r : Fin 512) (e : Fin 1024) :
    out0_4 (iblk m c 0 t) (iblk m c 1 t) (iblk m c 2 t) (iblk m c 3 t) (ix2 r e)
      = attnOut (m ((c : Thread nD τ).loc main_arg0)) (m ((c : Thread nD τ).loc main_arg1)) (m ((c : Thread nD τ).loc main_arg2))
        (m ((c : Thread nD τ).loc main_arg3)) (512 * t.val + r.val) e.val := by
  have ht : t.val < 32 := t.isLt
  have hr := r.isLt
  unfold out0_4 attnOut
  rw [View.canon_cons_unit_lit, View.ld_unit_lit, View.ld_unit_lit, View.ld_unit_lit, View.ld_unit_lit]
  rw [pay1_at, blk0, blk1, show (512 * t.val + r.val) / 8192 = t.val / 16 by omega]
  refine congrArg _ (congrArg _ (Finset.sum_congr rfl fun k _ => ?_))
  · rw [blk2, blk3]
  all_goals decide

/-- The gated projection as an array. -/
def outArr (x : S16896x1024.Idx → EReal) (mo : S3x1x6144.Idx → EReal) (o : S16384x1024.Idx → EReal) (w : S1024x1024.Idx → EReal) :
    S16384x1024.Idx → EReal := fun y => attnOut x mo o w (y 0).val (y 1).val

theorem covers4 : (cfg0.win 4).Covers := by decide +kernel

theorem outArr_emb (x : S16896x1024.Idx → EReal) (mo : S3x1x6144.Idx → EReal) (o : S16384x1024.Idx → EReal) (w : S1024x1024.Idx → EReal) (y : S512x1024.Idx) :
    outArr x mo o w (((cfg0.win 4).blk t).view.emb y) = attnOut x mo o w (512 * t.val + (y 0).val) (y 1).val := by
  unfold outArr
  have e0 : ((((cfg0.win 4).blk t).view.emb y) 0).val = 512 * t.val + (y 0).val := by
    blk_simp [idx4]
    simp; omega
  have e1 : ((((cfg0.win 4).blk t).view.emb y) 1).val = (y 1).val := by
    blk_simp [idx4]
  exact congrArg₂ (attnOut x mo o w) e0 e1

theorem pair_eta (z : S512x1024.Idx) : z = ix2 (z 0) (z 1) :=
  funext fun a => match a with | ⟨0, _⟩ => rfl | ⟨1, _⟩ => rfl

/-- The array the call leaves is the gated projection. -/
theorem out_eq : (dats m 0 c).arrAt 4 cfg0.N
    = outArr (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ covers4 fun t hf y => ?_
  blk_simp
  rw [after0_4]
  exact ((congrArg _ (pair_eta y)).trans (out_at m c t (y 0) (y 1))).trans (outArr_emb t _ _ _ _ y).symm

end Cert.Kernel3Ideal.Att

end
-- ==== Proof.OutRef.lean ====
module

public import proofs.«01_k».proof.Proof.Proj
public import proofs.«01_k».proof.Proof.Gen.Reference3Ideal.Read

@[expose] public section

noncomputable section

namespace Cert.Reference3Ideal.Att

open Cert.Reference3Ideal Cert.Reference3Ideal.Gen Cert.Reference3Ideal.Read Cert.Soft Cert.Proj
open Idealize.ShloMosaic Idealize.ShloMosaic.TcCoe
open scoped BigOperators

/-! # The reference's gated projection -/

variable (x0 : (⟨S16896x1024, .f32⟩ : BufTy).Contents (Elt Ideal)) (x1 : (⟨S3x1x6144, .f32⟩ : BufTy).Contents (Elt Ideal))
  (x2 : (⟨S16384x1024, .bf16⟩ : BufTy).Contents (Elt Ideal)) (x3 : (⟨S1024x1024, .f32⟩ : BufTy).Contents (Elt Ideal))

theorem v1_at (i : S2x8192x1024.Idx) : val_main_v1 (F := Ideal) x0 i = rd x0 (8192 * (i 0).val + (i 1).val) (i 2).val := by
  rw [val_main_v1_apply, val_main_v0_apply]
  have h2 : (i 2).val < 1024 := (i 2).isLt
  refine rd_of x0 _ _ _ ?_ ?_
  · show (((i 0).val * 8192 + (i 1).val) * 1024 + (i 2).val) / 1024 = _
    omega
  · show (((i 0).val * 8192 + (i 1).val) * 1024 + (i 2).val) % 1024 = _
    omega
theorem v4_at (i : S2x8192x1024.Idx) : val_main_v4 (F := Ideal) x2 i = rd x2 (8192 * (i 0).val + (i 1).val) (i 2).val := by
  have h2 : (i 2).val < 1024 := (i 2).isLt
  refine (val_main_v3_apply (F := Ideal) x2 i).trans (rd_of x2 _ _ _ ?_ ?_)
  · show (((i 0).val * 8192 + (i 1).val) * 1024 + (i 2).val) / 1024 = _
    omega
  · show (((i 0).val * 8192 + (i 1).val) * 1024 + (i 2).val) % 1024 = _
    omega
theorem v6_at (i : S2x8192x1024.Idx) : val_main_v6 (F := Ideal) x1 i = md x1 (i 0).val (2048 + (i 2).val) := by
  rw [val_main_v6_apply, val_main_v2_apply]
  exact md_of x1 _ _ _ rfl rfl
theorem v5_at (i : S2x8192x1024.Idx) : val_main_v5 (F := Ideal) x2 x3 i
    = ∑ k : Fin 1024, rd x2 (8192 * (i 0).val + (i 1).val) k.val * rd x3 k.val (i 2).val := by
  rw [val_main_v5_apply]
  refine Finset.sum_congr rfl fun k _ => congrArg₂ (· * ·) (v4_at x2 _) (rd_of x3 _ _ _ rfl rfl)
theorem v8_at (i : S2x8192x1024.Idx) : val_main_v8 (F := Ideal) x0 x1 x2 x3 i
    = rd x0 (8192 * (i 0).val + (i 1).val) (i 2).val + md x1 (i 0).val (2048 + (i 2).val)
      * ∑ k : Fin 1024, rd x2 (8192 * (i 0).val + (i 1).val) k.val * rd x3 k.val (i 2).val :=
  congrArg₂ (· + ·) (v1_at x0 i) (congrArg₂ (· * ·) (v6_at x1 i) (v5_at x2 x3 i))

theorem ref_eq (y : S16384x1024.Idx) : val_main_v9 (F := Ideal) x0 x1 x2 x3 y = attnOut x0 x1 x2 x3 (y 0).val (y 1).val := by
  rw [val_main_v9_apply, v8_at]
  have h1 : (y 1).val < 1024 := (y 1).isLt
  have e0 : (idx_main_v9 y 0).val = (y 0).val / 8192 := by
    show ((y 0).val * 1024 + (y 1).val) / 8388608 = _
    omega
  have e1 : 8192 * (idx_main_v9 y 0).val + (idx_main_v9 y 1).val = (y 0).val := by
    show 8192 * (((y 0).val * 1024 + (y 1).val) / 8388608) + ((y 0).val * 1024 + (y 1).val) / 1024 % 8192 = _
    omega
  have e2 : (idx_main_v9 y 2).val = (y 1).val := by
    show ((y 0).val * 1024 + (y 1).val) % 1024 = _
    omega
  rw [e1, e0, e2]
  rfl

end Cert.Reference3Ideal.Att

end
-- ==== Proof.Mix.lean ====
module

public import proofs.«01_k».proof.Proof.Proj

@[expose] public section

noncomputable section

namespace Cert.Proj

open Idealize.ShloMosaic Cert.Soft
open scoped BigOperators

/-! # The even layer's output projection as a formula over the whole arrays -/

/-- Row `R` of the latents' rows followed by the context's, at any width. -/
def latCtx {W : ℕ} (xl : (⟨2, ![16384, W]⟩ : Shape).Idx → EReal) (xc : (⟨2, ![512, W]⟩ : Shape).Idx → EReal) (R k : ℕ) : EReal :=
  if R < 16384 then rd xl R k else rd xc (R - 16384) k

/-- The gain of column `k`; past the last, zero. -/
def gnat (g : (⟨1, ![1024]⟩ : Shape).Idx → EReal) (k : ℕ) : EReal := if h : k < 1024 then gn g ⟨k, h⟩ else 0

/-- A group of 256 columns over its root mean square, times the gain. -/
def grp (X g : Fin 256 → EReal) (k : Fin 256) : EReal :=
  X k * Ideal.rsqrt (Ideal.div (∑ j : Fin 256, X j * X j) (Ideal.ofBits .f32 0x43800000#32) + Ideal.ofBits .f32 0x358637BD#32) * g k

/-- Column `C` of a row normed in groups of 256. -/
def grpRow (f g : ℕ → EReal) (C : ℕ) : EReal :=
  f C * Ideal.rsqrt (Ideal.div (∑ j : Fin 256, f (C / 256 * 256 + j.val) * f (C / 256 * 256 + j.val)) (Ideal.ofBits .f32 0x43800000#32)
    + Ideal.ofBits .f32 0x358637BD#32) * g C

theorem grp_eq (f g : ℕ → EReal) (q o : ℕ) (ho : o = q * 256) (k : Fin 256) :
    grp (fun j => f (o + j.val)) (fun j => g (o + j.val)) k = grpRow f g (o + k.val) := by
  have hk := k.isLt
  subst ho
  unfold grp grpRow
  rw [show (q * 256 + k.val) / 256 = q by omega]

/-- The two scans' outputs and the skip, whose two coefficients are those of the column's head. -/
def scanned (yf yb : (⟨2, ![16896, 1024]⟩ : Shape).Idx → EReal) (u : (⟨2, ![16896, 2048]⟩ : Shape).Idx → EReal)
    (ds : (⟨2, ![2, 16]⟩ : Shape).Idx → EReal) (R C : ℕ) : EReal :=
  rd yf R C + rd yb R C + (rd ds 0 (C / 64) + rd ds 1 (C / 64)) * rd u R C

/-- A number times the logistic function of itself. -/
def silu (z : EReal) : EReal := z * Ideal.div (Ideal.ofBits .f32 0x3F800000#32) (Ideal.ofBits .f32 0x3F800000#32 + Ideal.exp (-z))

/-- The scanned entry times the gate. -/
def gated (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal) (R C : ℕ) : EReal :=
  scanned yf yb u ds R C * silu (rd z R C)

/-- Column `k` of the projection's row: the Fourier half's 512 columns, then the scan half's, normed. -/
def mixed (fl : (⟨2, ![16384, 512]⟩ : Shape).Idx → EReal) (fc : (⟨2, ![512, 512]⟩ : Shape).Idx → EReal)
    (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal)
    (g : (⟨1, ![1024]⟩ : Shape).Idx → EReal) (R k : ℕ) : EReal :=
  if k < 512 then latCtx fl fc R k else grpRow (gated yf yb u z ds R) (gnat g) (k - 512)

/-- Entry `(R, C)` of the even layer's output projection, gated and added to the residual stream. -/
def evenOut (xl : (⟨2, ![16384, 1024]⟩ : Shape).Idx → EReal) (xc : (⟨2, ![512, 1024]⟩ : Shape).Idx → EReal)
    (fl : (⟨2, ![16384, 512]⟩ : Shape).Idx → EReal) (fc : (⟨2, ![512, 512]⟩ : Shape).Idx → EReal)
    (mo : (⟨3, ![3, 1, 6144]⟩ : Shape).Idx → EReal)
    (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal)
    (g : (⟨1, ![1024]⟩ : Shape).Idx → EReal) (w : (⟨2, ![1536, 1024]⟩ : Shape).Idx → EReal) (R C : ℕ) : EReal :=
  latCtx xl xc R C + md mo (R / 8192) (2048 + C) * ∑ k : Fin 1536, mixed fl fc yf yb u z ds g R k.val * rd w k.val C

theorem sum_add (F : ℕ → EReal) (a b : ℕ) :
    ∑ k : Fin (a + b), F k.val = (∑ k : Fin a, F k.val) + ∑ k : Fin b, F (a + k.val) := by
  rw [Fin.sum_univ_add]
  rfl

/-- The projection's sum: the Fourier half's columns, then the scan half's four groups. -/
theorem sum_groups (F : ℕ → EReal) :
    ∑ k : Fin 1536, F k.val = (∑ k : Fin 512, F k.val) + (∑ k : Fin 256, F (512 + k.val)) + (∑ k : Fin 256, F (768 + k.val))
      + (∑ k : Fin 256, F (1024 + k.val)) + ∑ k : Fin 256, F (1280 + k.val) := by
  rw [← sum_add F 512 256, ← sum_add F 768 256, ← sum_add F 1024 256, ← sum_add F 1280 256]

/-- A group's columns of the projection's row. -/
theorem mixed_grp (fl : (⟨2, ![16384, 512]⟩ : Shape).Idx → EReal) (fc : (⟨2, ![512, 512]⟩ : Shape).Idx → EReal)
    (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal)
    (g : (⟨1, ![1024]⟩ : Shape).Idx → EReal) (R q o : ℕ) (ho : o = q * 256) (k : Fin 256) :
    grp (fun j => gated yf yb u z ds R (o + j.val)) (fun j => gnat g (o + j.val)) k = mixed fl fc yf yb u z ds g R (512 + o + k.val) := by
  unfold mixed
  rw [if_neg (by omega), show 512 + o + k.val - 512 = o + k.val by omega]
  exact grp_eq _ _ q o ho k

end Cert.Proj

end
-- ==== Proof.MixValue.lean ====
module

public import proofs.«01_k».proof.Proof.Mix
public import proofs.«01_k».proof.Proof.Gen.Kernel4Ideal.Value
public import Idealize.ShloMosaic.Lib.Pipeline.ValueKit
public import Idealize.ShloMosaic.Lib.KernelVsHost

@[expose] public section

set_option maxRecDepth 16384

noncomputable section

namespace Cert.Kernel4Ideal.Att

open Cert.Kernel4Ideal Cert.Kernel4Ideal.Gen Cert.Soft Cert.Proj
open Idealize.ShloMosaic Idealize.ShloMosaic.TcCoe
open scoped BigOperators

/-! # The array the even layer's output projection leaves -/

/-! ## The block's values -/

theorem pay1_at (v0 v1 : Vec Ideal S512x1024 .f32) (v3 : Vec Ideal S1x1024 .f32) (v5 v9 : Vec Ideal S512x1024 .f32) (r : Fin 512) (k : Fin 1024) :
    k0_pay1 v0 v1 v3 v5 v9 (ix2 r k) = (v0 (ix2 r k) + v1 (ix2 r k) + v3 (ix2 0 k) * v5 (ix2 r k))
      * (v9 (ix2 r k) * Ideal.div (Ideal.ofBits .f32 0x3F800000#32) (Ideal.ofBits .f32 0x3F800000#32 + Ideal.exp (-(v9 (ix2 r k))))) := by
  unfold k0_pay1
  simp only [pointwise]
  simp

theorem pay2_at (i : grid0.Coords) (v20 v21 : Vec Ideal S512x512 .f32) (v24 : Vec Ideal S512x1024 .bf16) (r : Fin 512) (l : Fin 1024) :
    k0_pay2 i v20 v21 v24 (ix2 r l)
      = ∑ k : Fin 512, (Scalar.select (Scalar.cmpi .slt (BitVec.ofNat 32 (i 0).val) 32#32) v20 v21 : Vec Ideal S512x512 .f32) (ix2 r k) * v24 (ix2 k l) := by
  unfold k0_pay2
  generalize (Scalar.select (Scalar.cmpi .slt (BitVec.ofNat 32 (i 0).val) 32#32) v20 v21 : Vec Ideal S512x512 .f32) = x
  simp only [pointwise]
  simp

theorem pay3_at (v0 v1 : Vec Ideal S512x1024 .f32) (v3 : Vec Ideal S1x1024 .f32) (v5 v9 : Vec Ideal S512x1024 .f32) (r : Fin 512) (k : Fin 256) :
    k0_pay3 v0 v1 v3 v5 v9 (ix2 r k) = k0_pay1 v0 v1 v3 v5 v9 (ix2 r ⟨k.val, by omega⟩) := by
  unfold k0_pay3
  generalize k0_pay1 v0 v1 v3 v5 v9 = x
  simp only [pointwise]
  simp

theorem pay4_at (v0 v1 : Vec Ideal S512x1024 .f32) (v3 : Vec Ideal S1x1024 .f32) (v5 v9 : Vec Ideal S512x1024 .f32) (r : Fin 512) :
    k0_pay4 v0 v1 v3 v5 v9 (ix2 r 0) = Ideal.div (∑ j : Fin 256, k0_pay3 v0 v1 v3 v5 v9 (ix2 r j) * k0_pay3 v0 v1 v3 v5 v9 (ix2 r j))
      (Ideal.ofBits .f32 0x43800000#32) + Ideal.ofBits .f32 0x358637BD#32 := by
  unfold k0_pay4
  generalize k0_pay3 v0 v1 v3 v5 v9 = x
  simp only [pointwise]

theorem pay5_at (v18 v26 : FVec Ideal S512x1024 .f32) (v27 : FVec Ideal S512x256 .f32) (v34 : FVec Ideal S512x1 .f32) (v38 : Vec Ideal S1x256 .f32)
    (v43 : Vec Ideal S256x1024 .bf16) (v58 : Vec Ideal S1x256 .f32) (v63 : Vec Ideal S256x1024 .bf16) (r : Fin 512) (l : Fin 1024) :
    k0_pay5 v18 v26 v27 v34 v38 v43 v58 v63 (ix2 r l)
      = v26 (ix2 r l) + (∑ k : Fin 256, v27 (ix2 r k) * Ideal.rsqrt (v34 (ix2 r 0)) * v38 (ix2 0 k) * v43 (ix2 k l))
        + ∑ k : Fin 256, grp (fun j => v18 (ix2 r ⟨256 + j.val, by omega⟩)) (fun j => v58 (ix2 0 j)) k * v63 (ix2 k l) := by
  unfold k0_pay5 grp
  simp only [pointwise]
  simp

theorem pay6_at (v18 : FVec Ideal S512x1024 .f32) (r : Fin 512) (k : Fin 256) :
    k0_pay6 v18 (ix2 r k) = grp (fun j => v18 (ix2 r ⟨512 + j.val, by omega⟩)) (fun _ => 1) k := by
  unfold k0_pay6 grp
  simp only [pointwise]
  simp

theorem pay7_at (i : grid0.Coords) (v18 v66 : FVec Ideal S512x1024 .f32) (v77 : FVec Ideal S512x256 .f32) (v78 : Vec Ideal S1x256 .f32)
    (v83 : Vec Ideal S256x1024 .bf16) (v98 : Vec Ideal S1x256 .f32) (v103 : Vec Ideal S256x1024 .bf16) (v107 : Vec Ideal S1x1x6144 .f32)
    (v111 v112 : Vec Ideal S512x1024 .f32) (r : Fin 512) (l : Fin 1024) :
    k0_pay7 (BitVec.ofNat 32 (i 0).val) v18 v66 v77 v78 v83 v98 v103 v107 v111 v112 (ix2 r l)
      = (Scalar.select (Scalar.cmpi .slt (BitVec.ofNat 32 (i 0).val) 32#32) v111 v112 : Vec Ideal S512x1024 .f32) (ix2 r l)
        + v107 (ix3 0 0 ⟨2048 + l.val, by omega⟩) * (v66 (ix2 r l) + (∑ k : Fin 256, v77 (ix2 r k) * v78 (ix2 0 k) * v83 (ix2 k l))
        + ∑ k : Fin 256, grp (fun j => v18 (ix2 r ⟨768 + j.val, by omega⟩)) (fun j => v98 (ix2 0 j)) k * v103 (ix2 k l)) := by
  unfold k0_pay7 grp
  generalize (Scalar.select (Scalar.cmpi .slt (BitVec.ofNat 32 (i 0).val) 32#32) v111 v112 : Vec Ideal S512x1024 .f32) = x
  simp only [pointwise]
  simp

/-! ## What the call's own operations leave in the staged arrays -/

variable (m : (ℓ : Loc nD τ sig) → Buf (Elt Ideal) ℓ) (c : Dev nD) (t : Fin cfg0.N)

theorem V_skip : V m c main_v7 = (broadcastInDim S1x1024 ![1] bcast_S1024_S1x1024_1 (shapeCast S1024 (broadcastInDim S16x64 ![0] bcast_S16_S16x64_0
    (addf (shapeCast S16 (extractStridedSlice S1x16 ![0, 0] (m ((c : Thread nD τ).loc main_arg9)) slices_S2x16_S1x16_0_0) shapeCasts_S1x16_S16 : FVec Ideal S16 .f32)
      (shapeCast S16 (extractStridedSlice S1x16 ![1, 0] (m ((c : Thread nD τ).loc main_arg9)) slices_S2x16_S1x16_1_0) shapeCasts_S1x16_S16)))
    shapeCasts_S16x64_S1024) : S1x1024.Idx → EReal) := by
  simp [V, hostOps0, StableHlo.after]
  rfl
theorem V_g : V m c main_v12 = (broadcastInDim S1x1024 ![1] bcast_S1024_S1x1024_1 (m ((c : Thread nD τ).loc main_arg10)) : S1x1024.Idx → EReal) := by
  simp [V, hostOps0, StableHlo.after]
  rfl
theorem V_f : V m c main_v9 = (extractStridedSlice S512x1024 ![0, 0] (m ((c : Thread nD τ).loc main_arg11)) slices_S1536x1024_S512x1024_0_0 : S512x1024.Idx → EReal) := by
  simp [V, hostOps0, StableHlo.after]
  rfl
theorem V_s : V m c main_v11 = (extractStridedSlice S1024x1024 ![512, 0] (m ((c : Thread nD τ).loc main_arg11)) slices_S1536x1024_S1024x1024_512_0 : S1024x1024.Idx → EReal) := by
  simp [V, hostOps0, StableHlo.after]
  rfl

theorem V_skip_at (y : S1x1024.Idx) (k : ℕ) (h : (y 1).val = k) :
    V m c main_v7 y = rd (m ((c : Thread nD τ).loc main_arg9)) 0 (k / 64) + rd (m ((c : Thread nD τ).loc main_arg9)) 1 (k / 64) := by
  have hk : k < 1024 := h ▸ (y 1).isLt
  have hq : k / 64 < 16 := by omega
  rw [V_skip]
  refine (broadcastInDim_apply _ bcast_S1024_S1x1024_1 _ y (fun a => match a with | ⟨0, _⟩ => ⟨k, hk⟩) (fun a => match a with
    | ⟨0, _⟩ => h.symm)).trans ?_
  refine (shapeCast_apply (s := S16x64) (t := S1024) _ shapeCasts_S16x64_S1024 _ (ix2 ⟨k / 64, hq⟩ ⟨k % 64, by omega⟩) (by
    rw [Shape.rowMajor_val_two, Shape.rowMajor_val_one]; show k / 64 * 64 + k % 64 = k; omega)).trans ?_
  refine (broadcastInDim_apply _ bcast_S16_S16x64_0 _ _ (fun a => match a with | ⟨0, _⟩ => ⟨k / 64, hq⟩) (fun a => match a with
    | ⟨0, _⟩ => rfl)).trans ?_
  refine congrArg₂ (fun p q : EReal => p + q) ?_ ?_
  · refine (shapeCast_apply (s := S1x16) (t := S16) _ shapeCasts_S1x16_S16 _ (ix2 0 ⟨k / 64, hq⟩) (by
      rw [Shape.rowMajor_val_two, Shape.rowMajor_val_one]; show 0 * 16 + k / 64 = k / 64; omega)).trans ?_
    simp only [pointwise]
    refine rd_of (m ((c : Thread nD τ).loc main_arg9)) _ _ _ ?_ ?_ <;> simp
  · refine (shapeCast_apply (s := S1x16) (t := S16) _ shapeCasts_S1x16_S16 _ (ix2 0 ⟨k / 64, hq⟩) (by
      rw [Shape.rowMajor_val_two, Shape.rowMajor_val_one]; show 0 * 16 + k / 64 = k / 64; omega)).trans ?_
    simp only [pointwise]
    refine rd_of (m ((c : Thread nD τ).loc main_arg9)) _ _ _ ?_ ?_ <;> simp
theorem V_g_at (y : S1x1024.Idx) (k : ℕ) (h : (y 1).val = k) : V m c main_v12 y = gnat (m ((c : Thread nD τ).loc main_arg10)) k := by
  have hk : k < 1024 := h ▸ (y 1).isLt
  rw [V_g]
  simp only [pointwise]
  unfold gnat
  rw [dif_pos hk]
  exact gn_of _ _ _ h
theorem V_f_at (y : S512x1024.Idx) (k l : ℕ) (h0 : (y 0).val = k) (h1 : (y 1).val = l) :
    V m c main_v9 y = rd (m ((c : Thread nD τ).loc main_arg11)) k l := by
  rw [V_f]
  simp only [pointwise]
  refine rd_of (m ((c : Thread nD τ).loc main_arg11)) _ _ _ ?_ ?_ <;> simp [h0, h1]
theorem V_s_at (y : S1024x1024.Idx) (k l : ℕ) (h0 : (y 0).val = k) (h1 : (y 1).val = l) :
    V m c main_v11 y = rd (m ((c : Thread nD τ).loc main_arg11)) (512 + k) l := by
  rw [V_s]
  simp only [pointwise]
  refine rd_of (m ((c : Thread nD τ).loc main_arg11)) _ _ _ ?_ ?_ <;> simp [h0, h1]

/-! ## The blocks, as parts of the arrays -/

theorem idx0 : ∀ t : Fin cfg0.N, win0_0.index t = ![min t.val 31, 0] := by decide +kernel
theorem idx1 : ∀ t : Fin cfg0.N, win0_1.index t = ![0, 0] := by decide +kernel
theorem idx2 : ∀ t : Fin cfg0.N, win0_2.index t = ![min t.val 31, 0] := by decide +kernel
theorem idx3 : ∀ t : Fin cfg0.N, win0_3.index t = ![0, 0] := by decide +kernel
theorem idx4 : ∀ t : Fin cfg0.N, win0_4.index t = ![t.val / 16, 0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![t.val, 0] := by decide +kernel

theorem blk0 (ht : t.val < 32) (r : Fin 512) (e : Fin 1024) :
    iblk m c 0 t (ix2 r e) = rd (m ((c : Thread nD τ).loc main_arg0)) (512 * t.val + r.val) e.val := by
  refine (congrFun (V_main_arg0 m c) _).trans (rd_of _ (((cfg0.win 0).blk t).view.emb (ix2 r e)) _ _ ?_ ?_)
  · blk_simp [idx0]
    simp; omega
  · blk_simp [idx0]
theorem blk2 (ht : t.val < 32) (r : Fin 512) (e : Fin 512) :
    iblk m c 2 t (ix2 r e) = rd (m ((c : Thread nD τ).loc main_arg2)) (512 * t.val + r.val) e.val := by
  refine (congrFun (V_main_arg2 m c) _).trans (rd_of _ (((cfg0.win 2).blk t).view.emb (ix2 r e)) _ _ ?_ ?_)
  · blk_simp [idx2]
    simp; omega
  · blk_simp [idx2]
theorem blk1 (r : Fin 512) (e : Fin 1024) :
    iblk m c 1 t (ix2 r e) = rd (m ((c : Thread nD τ).loc main_arg1)) r.val e.val := by
  refine (congrFun (V_main_arg1 m c) _).trans (rd_of _ (((cfg0.win 1).blk t).view.emb (ix2 r e)) _ _ ?_ ?_)
  · blk_simp [idx1]
  · blk_simp [idx1]
theorem blk3 (r : Fin 512) (e : Fin 512) :
    iblk m c 3 t (ix2 r e) = rd (m ((c : Thread nD τ).loc main_arg3)) r.val e.val := by
  refine (congrFun (V_main_arg3 m c) _).trans (rd_of _ (((cfg0.win 3).blk t).view.emb (ix2 r e)) _ _ ?_ ?_)
  · blk_simp [idx3]
  · blk_simp [idx3]
theorem blk4 (e : Fin 6144) :
    iblk m c 4 t (ix3 0 0 e) = md (m ((c : Thread nD τ).loc main_arg4)) (t.val / 16) e.val := by
  refine (congrFun (V_main_arg4 m c) _).trans (md_of _ (((cfg0.win 4).blk t).view.emb (ix3 0 0 e)) _ _ ?_ ?_)
  · blk_simp [idx4]
    simp
  · blk_simp [idx4]
theorem blk5 (r : Fin 512) (e : Fin 1024) :
    iblk m c 5 t (ix2 r e) = rd (m ((c : Thread nD τ).loc main_arg5)) (512 * t.val + r.val) e.val := by
  refine (congrFun (V_main_arg5 m c) _).trans (rd_of _ (((cfg0.win 5).blk t).view.emb (ix2 r e)) _ _ ?_ ?_)
  · blk_simp [idx5]
    simp; omega
  · blk_simp [idx5]
theorem blk6 (r : Fin 512) (e : Fin 1024) :
    iblk m c 6 t (ix2 r e) = rd (m ((c : Thread nD τ).loc main_arg6)) (512 * t.val + r.val) e.val := by
  refine (congrFun (V_main_arg6 m c) _).trans (rd_of _ (((cfg0.win 6).blk t).view.emb (ix2 r e)) _ _ ?_ ?_)
  · blk_simp [idx6]
    simp; omega
  · blk_simp [idx6]
theorem blk7 (r : Fin 512) (e : Fin 1024) :
    iblk m c 7 t (ix2 r e) = rd (m ((c : Thread nD τ).loc main_arg7)) (512 * t.val + r.val) e.val := by
  refine (congrFun (V_main_arg7 m c) _).trans (rd_of _ (((cfg0.win 7).blk t).view.emb (ix2 r e)) _ _ ?_ ?_)
  · blk_simp [idx7]
    simp; omega
  · blk_simp [idx7]
theorem blk8 (r : Fin 512) (e : Fin 1024) :
    iblk m c 8 t (ix2 r e) = rd (m ((c : Thread nD τ).loc main_arg8)) (512 * t.val + r.val) e.val := by
  refine (congrFun (V_main_arg8 m c) _).trans (rd_of _ (((cfg0.win 8).blk t).view.emb (ix2 r e)) _ _ ?_ ?_)
  · blk_simp [idx8]
    simp; omega
  · blk_simp [idx8]
theorem blk9 (e : Fin 1024) : iblk m c 9 t (ix2 0 e) = rd (m ((c : Thread nD τ).loc main_arg9)) 0 (e.val / 64) + rd (m ((c : Thread nD τ).loc main_arg9)) 1 (e.val / 64) := by
  refine V_skip_at m c (((cfg0.win 9).blk t).view.emb (ix2 0 e)) _ ?_
  blk_simp [idx9]
theorem blk10 (e : Fin 1024) : iblk m c 10 t (ix2 0 e) = gnat (m ((c : Thread nD τ).loc main_arg10)) e.val := by
  refine V_g_at m c (((cfg0.win 10).blk t).view.emb (ix2 0 e)) _ ?_
  blk_simp [idx10]
theorem blk11 (k : Fin 512) (l : Fin 1024) : iblk m c 11 t (ix2 k l) = rd (m ((c : Thread nD τ).loc main_arg11)) k.val l.val := by
  refine V_f_at m c (((cfg0.win 11).blk t).view.emb (ix2 k l)) _ _ ?_ ?_ <;> blk_simp [idx11]
theorem blk12 (k : Fin 1024) (l : Fin 1024) : iblk m c 12 t (ix2 k l) = rd (m ((c : Thread nD τ).loc main_arg11)) (512 + k.val) l.val := by
  refine V_s_at m c (((cfg0.win 12).blk t).view.emb (ix2 k l)) _ _ ?_ ?_ <;> blk_simp [idx12]

/-- The point takes the block of latents before the last point, where it takes the context rows. -/
theorem cond_at : ∀ t : Fin cfg0.N, Scalar.cmpi .slt (BitVec.ofNat 32 (grid0.coords t 0).val) 32#32 = if t.val < 32 then 1#1 else 0#1 := by
  decide +kernel

theorem row_at (r : Fin 512) (k : Fin 1024) :
    (Scalar.select (Scalar.cmpi .slt (BitVec.ofNat 32 (grid0.coords t 0).val) 32#32) (iblk m c 0 t) (iblk m c 1 t) : Vec Ideal S512x1024 .f32) (ix2 r k)
      = latCtx (m ((c : Thread nD τ).loc main_arg0)) (m ((c : Thread nD τ).loc main_arg1)) (512 * t.val + r.val) k.val := by
  have ht : t.val < 33 := t.isLt
  have hr := r.isLt
  rw [cond_at]
  unfold latCtx Scalar.select
  by_cases h : t.val < 32
  · rw [if_pos h, if_pos (show 512 * t.val + r.val < 16384 by omega)]
    exact blk0 m c t h r k
  · rw [if_neg h, if_neg (show ¬ 512 * t.val + r.val < 16384 by omega), show 512 * t.val + r.val - 16384 = r.val by omega]
    exact blk1 m c t r k

theorem four_at (r : Fin 512) (k : Fin 512) :
    (Scalar.select (Scalar.cmpi .slt (BitVec.ofNat 32 (grid0.coords t 0).val) 32#32) (iblk m c 2 t) (iblk m c 3 t) : Vec Ideal S512x512 .f32) (ix2 r k)
      = latCtx (m ((c : Thread nD τ).loc main_arg2)) (m ((c : Thread nD τ).loc main_arg3)) (512 * t.val + r.val) k.val := by
  have ht : t.val < 33 := t.isLt
  have hr := r.isLt
  rw [cond_at]
  unfold latCtx Scalar.select
  by_cases h : t.val < 32
  · rw [if_pos h, if_pos (show 512 * t.val + r.val < 16384 by omega)]
    exact blk2 m c t h r k
  · rw [if_neg h, if_neg (show ¬ 512 * t.val + r.val < 16384 by omega), show 512 * t.val + r.val - 16384 = r.val by omega]
    exact blk3 m c t r k

theorem gated_at (r : Fin 512) (k : Fin 1024) :
    k0_pay1 (iblk m c 5 t) (iblk m c 6 t) (iblk m c 9 t) (iblk m c 7 t) (iblk m c 8 t) (ix2 r k)
      = gated (m ((c : Thread nD τ).loc main_arg5)) (m ((c : Thread nD τ).loc main_arg6)) (m ((c : Thread nD τ).loc main_arg7)) (m ((c : Thread nD τ).loc main_arg8)) (m ((c : Thread nD τ).loc main_arg9)) (512 * t.val + r.val) k.val := by
  rw [pay1_at]
  unfold gated scanned silu
  rw [blk5, blk6, blk7, blk8, blk9]

theorem gain0 (k : Fin 256) : View.ld (iblk m c 10 t : Vec Ideal S1x1024 .f32) r0_3 (ix2 0 k) = gnat (m ((c : Thread nD τ).loc main_arg10)) (0 + k.val) :=
  (View.ld_unit_apply_of (S := S1x1024) _ _ _ _ (ix2 0 k) (ix2 0 ⟨0 + k.val, by omega⟩) (fun a => match a with
    | ⟨0, _⟩ => rfl
    | ⟨1, _⟩ => rfl)).trans (blk10 m c t _)
theorem wrow0 (k : Fin 256) (l : Fin 1024) :
    View.ld (iblk m c 12 t : Vec Ideal S1024x1024 .bf16) r0_4 (ix2 k l) = rd (m ((c : Thread nD τ).loc main_arg11)) (512 + k.val) l.val :=
  (View.ld_unit_apply_of (S := S1024x1024) _ _ _ _ (ix2 k l) (ix2 ⟨0 + k.val, by omega⟩ l) (fun a => match a with
    | ⟨0, _⟩ => rfl
    | ⟨1, _⟩ => by show l.val = 0 + l.val; omega)).trans ((blk12 m c t _ _).trans (congrArg (fun R => rd (m ((c : Thread nD τ).loc main_arg11)) R l.val)
      (show 512 + (0 + k.val) = 512 + k.val by omega)))
theorem gain1 (k : Fin 256) : View.ld (iblk m c 10 t : Vec Ideal S1x1024 .f32) r0_5 (ix2 0 k) = gnat (m ((c : Thread nD τ).loc main_arg10)) (256 + k.val) :=
  (View.ld_unit_apply_of (S := S1x1024) _ _ _ _ (ix2 0 k) (ix2 0 ⟨256 + k.val, by omega⟩) (fun a => match a with
    | ⟨0, _⟩ => rfl
    | ⟨1, _⟩ => rfl)).trans (blk10 m c t _)
theorem wrow1 (k : Fin 256) (l : Fin 1024) :
    View.ld (iblk m c 12 t : Vec Ideal S1024x1024 .bf16) r0_6 (ix2 k l) = rd (m ((c : Thread nD τ).loc main_arg11)) (768 + k.val) l.val :=
  (View.ld_unit_apply_of (S := S1024x1024) _ _ _ _ (ix2 k l) (ix2 ⟨256 + k.val, by omega⟩ l) (fun a => match a with
    | ⟨0, _⟩ => rfl
    | ⟨1, _⟩ => by show l.val = 0 + l.val; omega)).trans ((blk12 m c t _ _).trans (congrArg (fun R => rd (m ((c : Thread nD τ).loc main_arg11)) R l.val)
      (show 512 + (256 + k.val) = 768 + k.val by omega)))
theorem gain2 (k : Fin 256) : View.ld (iblk m c 10 t : Vec Ideal S1x1024 .f32) r0_7 (ix2 0 k) = gnat (m ((c : Thread nD τ).loc main_arg10)) (512 + k.val) :=
  (View.ld_unit_apply_of (S := S1x1024) _ _ _ _ (ix2 0 k) (ix2 0 ⟨512 + k.val, by omega⟩) (fun a => match a with
    | ⟨0, _⟩ => rfl
    | ⟨1, _⟩ => rfl)).trans (blk10 m c t _)
theorem wrow2 (k : Fin 256) (l : Fin 1024) :
    View.ld (iblk m c 12 t : Vec Ideal S1024x1024 .bf16) r0_8 (ix2 k l) = rd (m ((c : Thread nD τ).loc main_arg11)) (1024 + k.val) l.val :=
  (View.ld_unit_apply_of (S := S1024x1024) _ _ _ _ (ix2 k l) (ix2 ⟨512 + k.val, by omega⟩ l) (fun a => match a with
    | ⟨0, _⟩ => rfl
    | ⟨1, _⟩ => by show l.val = 0 + l.val; omega)).trans ((blk12 m c t _ _).trans (congrArg (fun R => rd (m ((c : Thread nD τ).loc main_arg11)) R l.val)
      (show 512 + (512 + k.val) = 1024 + k.val by omega)))
theorem gain3 (k : Fin 256) : View.ld (iblk m c 10 t : Vec Ideal S1x1024 .f32) r0_9 (ix2 0 k) = gnat (m ((c : Thread nD τ).loc main_arg10)) (768 + k.val) :=
  (View.ld_unit_apply_of (S := S1x1024) _ _ _ _ (ix2 0 k) (ix2 0 ⟨768 + k.val, by omega⟩) (fun a => match a with
    | ⟨0, _⟩ => rfl
    | ⟨1, _⟩ => rfl)).trans (blk10 m c t _)
theorem wrow3 (k : Fin 256) (l : Fin 1024) :
    View.ld (iblk m c 12 t : Vec Ideal S1024x1024 .bf16) r0_10 (ix2 k l) = rd (m ((c : Thread nD τ).loc main_arg11)) (1280 + k.val) l.val :=
  (View.ld_unit_apply_of (S := S1024x1024) _ _ _ _ (ix2 k l) (ix2 ⟨768 + k.val, by omega⟩ l) (fun a => match a with
    | ⟨0, _⟩ => rfl
    | ⟨1, _⟩ => by show l.val = 0 + l.val; omega)).trans ((blk12 m c t _ _).trans (congrArg (fun R => rd (m ((c : Thread nD τ).loc main_arg11)) R l.val)
      (show 512 + (768 + k.val) = 1280 + k.val by omega)))

/-! ## The projection's row, group by group -/

/-- The block's row of the projection's left factor. -/
abbrev lhs (r : Fin 512) (k : ℕ) : EReal :=
  mixed (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (512 * t.val + r.val) k

theorem grp0_at (r : Fin 512) (k : Fin 256) :
    grp (fun j => k0_pay1 (iblk m c 5 t) (iblk m c 6 t) (iblk m c 9 t) (iblk m c 7 t) (iblk m c 8 t) (ix2 r ⟨0 + j.val, by omega⟩)) (fun j => View.ld (iblk m c 10 t : Vec Ideal S1x1024 .f32) r0_3 (ix2 0 j)) k
      = lhs m c t r (512 + k.val) := by
  refine Eq.trans ?_ (mixed_grp (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (512 * t.val + r.val) 0 0 rfl k)
  congr 1
  · exact funext fun j => gated_at m c t r _
  · exact funext fun j => gain0 m c t j
theorem grp1_at (r : Fin 512) (k : Fin 256) :
    grp (fun j => k0_pay1 (iblk m c 5 t) (iblk m c 6 t) (iblk m c 9 t) (iblk m c 7 t) (iblk m c 8 t) (ix2 r ⟨256 + j.val, by omega⟩)) (fun j => View.ld (iblk m c 10 t : Vec Ideal S1x1024 .f32) r0_5 (ix2 0 j)) k
      = lhs m c t r (768 + k.val) := by
  refine Eq.trans ?_ (mixed_grp (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (512 * t.val + r.val) 1 256 rfl k)
  congr 1
  · exact funext fun j => gated_at m c t r _
  · exact funext fun j => gain1 m c t j
theorem grp2_at (r : Fin 512) (k : Fin 256) :
    grp (fun j => k0_pay1 (iblk m c 5 t) (iblk m c 6 t) (iblk m c 9 t) (iblk m c 7 t) (iblk m c 8 t) (ix2 r ⟨512 + j.val, by omega⟩)) (fun j => View.ld (iblk m c 10 t : Vec Ideal S1x1024 .f32) r0_7 (ix2 0 j)) k
      = lhs m c t r (1024 + k.val) := by
  refine Eq.trans ?_ (mixed_grp (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (512 * t.val + r.val) 2 512 rfl k)
  congr 1
  · exact funext fun j => gated_at m c t r _
  · exact funext fun j => gain2 m c t j
theorem grp3_at (r : Fin 512) (k : Fin 256) :
    grp (fun j => k0_pay1 (iblk m c 5 t) (iblk m c 6 t) (iblk m c 9 t) (iblk m c 7 t) (iblk m c 8 t) (ix2 r ⟨768 + j.val, by omega⟩)) (fun j => View.ld (iblk m c 10 t : Vec Ideal S1x1024 .f32) r0_9 (ix2 0 j)) k
      = lhs m c t r (1280 + k.val) := by
  refine Eq.trans ?_ (mixed_grp (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (512 * t.val + r.val) 3 768 rfl k)
  congr 1
  · exact funext fun j => gated_at m c t r _
  · exact funext fun j => gain3 m c t j

/-- The first group, whose normed entries the body forms in two steps. -/
theorem first_at (r : Fin 512) (k : Fin 256) :
    k0_pay3 (iblk m c 5 t) (iblk m c 6 t) (iblk m c 9 t) (iblk m c 7 t) (iblk m c 8 t) (ix2 r k)
      * Ideal.rsqrt (k0_pay4 (iblk m c 5 t) (iblk m c 6 t) (iblk m c 9 t) (iblk m c 7 t) (iblk m c 8 t) (ix2 r 0))
      * View.ld (iblk m c 10 t : Vec Ideal S1x1024 .f32) r0_3 (ix2 0 k) = lhs m c t r (512 + k.val) := by
  rw [pay4_at]
  simp only [pay3_at]
  rw [← grp0_at]
  unfold grp
  simp only [Nat.zero_add]
/-- The third group, whose gain the body multiplies in afterwards. -/
theorem third_at (r : Fin 512) (k : Fin 256) :
    k0_pay6 (k0_pay1 (iblk m c 5 t) (iblk m c 6 t) (iblk m c 9 t) (iblk m c 7 t) (iblk m c 8 t)) (ix2 r k) * View.ld (iblk m c 10 t : Vec Ideal S1x1024 .f32) r0_7 (ix2 0 k) = lhs m c t r (1024 + k.val) := by
  rw [pay6_at, ← grp2_at]
  unfold grp
  rw [mul_one]

/-! ## The array -/

theorem out13_at (r : Fin 512) (e : Fin 1024) :
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e)
      = evenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (512 * t.val + r.val) e.val := by
  have ht : t.val < 33 := t.isLt
  have hr := r.isLt
  unfold out0_13 k0_pay8 evenOut
  rw [View.canon_cons_unit_lit]
  rw [View.ld_unit_lit (S := S512x1024) _ (iblk m c 0 t), View.ld_unit_lit (S := S512x1024) _ (iblk m c 1 t),
    View.ld_unit_lit (S := S512x512) _ (iblk m c 2 t), View.ld_unit_lit (S := S512x512) _ (iblk m c 3 t),
    View.ld_unit_lit (S := S1x1x6144) _ (iblk m c 4 t), View.ld_unit_lit (S := S512x1024) _ (iblk m c 5 t),
    View.ld_unit_lit (S := S512x1024) _ (iblk m c 6 t), View.ld_unit_lit (S := S512x1024) _ (iblk m c 7 t),
    View.ld_unit_lit (S := S512x1024) _ (iblk m c 8 t), View.ld_unit_lit (S := S1x1024) _ (iblk m c 9 t),
    View.ld_unit_lit (S := S512x1024) _ (iblk m c 11 t)]
  rw [pay7_at, pay5_at, pay2_at, row_at, blk4, show (512 * t.val + r.val) / 8192 = t.val / 16 by omega]
  rw [sum_groups fun k => lhs m c t r k * rd (m ((c : Thread nD τ).loc main_arg11)) k e.val]
  refine congrArg₂ (fun p q : EReal => p + q) rfl (congrArg₂ (fun p q : EReal => p * q) rfl ?_)
  refine congrArg₂ (fun p q : EReal => p + q) (congrArg₂ (fun p q : EReal => p + q) (congrArg₂ (fun p q : EReal => p + q)
    (congrArg₂ (fun p q : EReal => p + q) ?_ ?_) ?_) ?_) ?_
  · refine Finset.sum_congr rfl fun k _ => congrArg₂ (fun p q : EReal => p * q) ((four_at m c t r k).trans ?_) (blk11 m c t k e)
    unfold lhs mixed
    rw [if_pos k.isLt]
  · exact Finset.sum_congr rfl fun k _ => congrArg₂ (fun p q : EReal => p * q) (first_at m c t r k) (wrow0 m c t k e)
  · exact Finset.sum_congr rfl fun k _ => congrArg₂ (fun p q : EReal => p * q) (grp1_at m c t r k) (wrow1 m c t k e)
  · exact Finset.sum_congr rfl fun k _ => congrArg₂ (fun p q : EReal => p * q) (third_at m c t r k) (wrow2 m c t k e)
  · exact Finset.sum_congr rfl fun k _ => congrArg₂ (fun p q : EReal => p * q) (grp3_at m c t r k) (wrow3 m c t k e)
  all_goals decide

theorem covers13 : (cfg0.win 13).Covers := by decide +kernel

/-- The even layer's output projection, as an array. -/
def arr13 (xl : S16384x1024.Idx → EReal) (xc : S512x1024.Idx → EReal) (fl : S16384x512.Idx → EReal) (fc : S512x512.Idx → EReal) (mo : S3x1x6144.Idx → EReal) (yf : S16896x1024.Idx → EReal) (yb : S16896x1024.Idx → EReal) (u : S16896x2048.Idx → EReal) (z : S16896x1024.Idx → EReal) (ds : S2x16.Idx → EReal) (g : S1024.Idx → EReal) (w : S1536x1024.Idx → EReal) : S16896x1024.Idx → EReal :=
  fun y => evenOut xl xc fl fc mo yf yb u z ds g w (y 0).val (y 1).val

theorem arr13_emb (xl : S16384x1024.Idx → EReal) (xc : S512x1024.Idx → EReal) (fl : S16384x512.Idx → EReal) (fc : S512x512.Idx → EReal) (mo : S3x1x6144.Idx → EReal) (yf : S16896x1024.Idx → EReal) (yb : S16896x1024.Idx → EReal) (u : S16896x2048.Idx → EReal) (z : S16896x1024.Idx → EReal) (ds : S2x16.Idx → EReal) (g : S1024.Idx → EReal) (w : S1536x1024.Idx → EReal) (y : S512x1024.Idx) :
    arr13 xl xc fl fc mo yf yb u z ds g w (((cfg0.win 13).blk t).view.emb y) = evenOut xl xc fl fc mo yf yb u z ds g w (512 * t.val + (y 0).val) (y 1).val := by
  unfold arr13
  have e0 : ((((cfg0.win 13).blk t).view.emb y) 0).val = 512 * t.val + (y 0).val := by
    blk_simp [idx13]
    simp; omega
  have e1 : ((((cfg0.win 13).blk t).view.emb y) 1).val = (y 1).val := by
    blk_simp [idx13]
  exact congrArg₂ (fun R C => evenOut xl xc fl fc mo yf yb u z ds g w R C) e0 e1

theorem pair13 (z : S512x1024.Idx) : z = ix2 (z 0) (z 1) :=
  funext fun a => match a with | ⟨0, _⟩ => rfl | ⟨1, _⟩ => rfl

theorem out13_eq : (dats m 0 c).arrAt 13 cfg0.N
    = arr13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ covers13 fun t hf y => ?_
  blk_simp
  rw [after0_13]
  exact ((congrArg _ (pair13 y)).trans (out13_at m c t (y 0) (y 1))).trans (arr13_emb t _ _ _ _ _ _ _ _ _ _ _ _ y).symm

end Cert.Kernel4Ideal.Att

end
-- ==== Proof.MixSkip.lean ====
module

public import proofs.«01_k».proof.Proof.Mix

@[expose] public section

noncomputable section

namespace Cert.Proj

open Idealize.ShloMosaic Cert.Soft
open scoped BigOperators

/-! # Two skips added one after the other, against one skip by the sum of the coefficients

With a real input the two agree, or both are infinite: then the group's root mean square is infinite, and the group is zero either way. -/

/-- The same number, or both infinite. -/
def Near (p q : EReal) : Prop := p = q ∨ ((p = ⊤ ∨ p = ⊥) ∧ (q = ⊤ ∨ q = ⊥))

theorem two_skips_of_neg (d e : EReal) (x : ℝ) (hx : x < 0) :
    d * (x : EReal) + e * (x : EReal) = (d + e) * (x : EReal)
      ∨ (d * (x : EReal) + e * (x : EReal) = ⊥ ∧ (d + e) * (x : EReal) = ⊤) := by
  induction d using EReal.rec <;> induction e using EReal.rec <;>
    simp [EReal.top_mul_coe_of_neg hx, EReal.bot_mul_coe_of_neg hx]
  all_goals first
    | (left; rw [← EReal.coe_mul, EReal.top_add_coe])
    | (left; rw [← EReal.coe_mul, EReal.add_top_of_ne_bot (EReal.coe_ne_bot _)])
    | (left; rw [← EReal.coe_add, ← EReal.coe_mul, ← EReal.coe_mul, ← EReal.coe_mul, ← EReal.coe_add, add_mul])

theorem two_skips (a b d e : EReal) (x : ℝ) :
    Near (a + d * (x : EReal) + b + e * (x : EReal)) (a + b + (d + e) * (x : EReal)) := by
  rw [add_right_comm a, add_assoc (a + b)]
  rcases le_or_gt 0 x with hx | hx
  · left
    rw [EReal.right_distrib_of_nonneg_of_ne_top (EReal.coe_nonneg.2 hx) (EReal.coe_ne_top x)]
  · rcases two_skips_of_neg d e x hx with h | ⟨h1, h2⟩
    · left
      rw [h]
    · right
      rw [h1, h2, EReal.add_bot]
      refine ⟨Or.inr rfl, ?_⟩
      by_cases h : a + b = ⊥
      · right
        rw [h, EReal.bot_add]
      · left
        exact EReal.add_top_of_ne_bot h

/-- An infinite number times another is infinite, unless the other is zero. -/
theorem inf_mul {p s : EReal} (hp : p = ⊤ ∨ p = ⊥) (hs : s ≠ 0) : p * s = ⊤ ∨ p * s = ⊥ := by
  rcases lt_or_gt_of_ne hs with h | h <;> rcases hp with rfl | rfl
  · exact Or.inr (EReal.top_mul_of_neg h)
  · exact Or.inl (EReal.bot_mul_of_neg h)
  · exact Or.inl (EReal.top_mul_of_pos h)
  · exact Or.inr (EReal.bot_mul_of_pos h)

theorem near_mul {p q : EReal} (h : Near p q) (s : EReal) : Near (p * s) (q * s) := by
  rcases h with h | ⟨hp, hq⟩
  · exact Or.inl (h ▸ rfl)
  · by_cases hs : s = 0
    · left
      rw [hs, mul_zero, mul_zero]
    · exact Or.inr ⟨inf_mul hp hs, inf_mul hq hs⟩

theorem inf_sq {p : EReal} (hp : p = ⊤ ∨ p = ⊥) : p * p = ⊤ := by
  rcases hp with rfl | rfl
  · exact EReal.top_mul_top
  · exact EReal.bot_mul_bot

theorem near_sq {p q : EReal} (h : Near p q) : p * p = q * q := by
  rcases h with h | ⟨hp, hq⟩
  · rw [h]
  · rw [inf_sq hp, inf_sq hq]

theorem sq_nonneg (p : EReal) : 0 ≤ p * p := by
  rcases le_total 0 p with h | h
  · exact mul_nonneg h h
  · have e := mul_nonneg (EReal.neg_nonneg.2 h) (EReal.neg_nonneg.2 h)
    rwa [neg_mul_neg] at e

theorem width_bits : (Ideal.ofBits .f32 0x43800000#32 : EReal) = ((256 : ℝ) : EReal) := by
  simp [Ideal.ofBits, Ideal.ieee]
  rw [← EReal.coe_mul]
  norm_num
theorem eps_bits : ∃ r : ℝ, (Ideal.ofBits .f32 0x358637BD#32 : EReal) = (r : EReal) := by
  simp [Ideal.ofBits, Ideal.ieee]
  exact ⟨_, rfl⟩

/-- An infinite root mean square makes its reciprocal zero. -/
theorem rsqrt_inf : Ideal.rsqrt (Ideal.div ⊤ (Ideal.ofBits .f32 0x43800000#32) + Ideal.ofBits .f32 0x358637BD#32) = 0 := by
  obtain ⟨r, hr⟩ := eps_bits
  rw [hr, width_bits]
  unfold Ideal.div
  rw [if_neg (by norm_num), ← EReal.coe_inv, EReal.top_mul_coe_of_pos (by norm_num), EReal.top_add_coe]
  rfl

/-- Rows that agree up to infinities of either sign are the same row once normed. -/
theorem grpRow_near (f f' g : ℕ → EReal) (C : ℕ) (h : ∀ j : ℕ, j < 256 → Near (f (C / 256 * 256 + j)) (f' (C / 256 * 256 + j))) :
    grpRow f g C = grpRow f' g C := by
  unfold grpRow
  have hs : ∑ j : Fin 256, f (C / 256 * 256 + j.val) * f (C / 256 * 256 + j.val)
      = ∑ j : Fin 256, f' (C / 256 * 256 + j.val) * f' (C / 256 * 256 + j.val) :=
    Finset.sum_congr rfl fun j _ => near_sq (h j.val j.isLt)
  rw [← hs]
  have hC := h (C % 256) (Nat.mod_lt _ (by norm_num))
  rw [show C / 256 * 256 + C % 256 = C by omega] at hC
  rcases hC with e | ⟨hp, _⟩
  · rw [e]
  · have ht : ∑ j : Fin 256, f (C / 256 * 256 + j.val) * f (C / 256 * 256 + j.val) = ⊤ := by
      refine top_le_iff.1 ?_
      have e := Finset.single_le_sum (f := fun j : Fin 256 => f (C / 256 * 256 + j.val) * f (C / 256 * 256 + j.val))
        (fun j _ => sq_nonneg _) (Finset.mem_univ (⟨C % 256, Nat.mod_lt _ (by norm_num)⟩ : Fin 256))
      simp only [show C / 256 * 256 + C % 256 = C by omega, inf_sq hp] at e
      exact e
    rw [ht, rsqrt_inf, mul_zero, mul_zero]

/-- The scans' outputs with the two skips, as the reference adds them, times the gate. -/
def gated2 (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal) (R C : ℕ) : EReal :=
  (rd yf R C + rd ds 0 (C / 64) * rd u R C + rd yb R C + rd ds 1 (C / 64) * rd u R C) * silu (rd z R C)

theorem skip_real (u : (⟨2, ![16896, 2048]⟩ : Shape).Idx → EReal)
    (hu : ∀ y : (⟨2, ![16896, 2048]⟩ : Shape).Idx, (y 1).val < 1024 → ∃ r : ℝ, u y = (r : EReal)) (R C : ℕ) (hC : C < 1024) :
    ∃ r : ℝ, rd u R C = (r : EReal) := by
  unfold rd
  split
  · exact hu _ hC
  · exact ⟨0, rfl⟩

/-- With a real skip input, the reference's rows and the kernel's are the same once normed. -/
theorem grpRow_gated (yf yb : (⟨2, ![16896, 1024]⟩ : Shape).Idx → EReal) (u : (⟨2, ![16896, 2048]⟩ : Shape).Idx → EReal)
    (z : (⟨2, ![16896, 1024]⟩ : Shape).Idx → EReal) (ds : (⟨2, ![2, 16]⟩ : Shape).Idx → EReal) (g : ℕ → EReal)
    (hu : ∀ y : (⟨2, ![16896, 2048]⟩ : Shape).Idx, (y 1).val < 1024 → ∃ r : ℝ, u y = (r : EReal)) (R C : ℕ) (hC : C < 1024) :
    grpRow (gated2 yf yb u z ds R) g C = grpRow (gated yf yb u z ds R) g C := by
  refine grpRow_near _ _ _ _ fun j hj => ?_
  obtain ⟨x, hx⟩ := skip_real u hu R (C / 256 * 256 + j) (by omega)
  unfold gated2 gated scanned
  rw [hx]
  exact near_mul (two_skips _ _ _ _ x) _

end Cert.Proj

end
-- ==== Proof.MixRef.lean ====
module

public import proofs.«01_k».proof.Proof.MixSkip
public import proofs.«01_k».proof.Proof.Gen.Reference4Ideal.Read
public import Idealize.ShloMosaic.Lib.KernelVsHost

@[expose] public section

noncomputable section

namespace Cert.Reference4Ideal.Att

open Cert.Reference4Ideal Cert.Reference4Ideal.Gen Cert.Reference4Ideal.Read Cert.Soft Cert.Proj
open Idealize.ShloMosaic Idealize.ShloMosaic.TcCoe
open scoped BigOperators

/-! # The reference's output projection of the even layer -/

variable (x0 : (⟨S16384x1024, .f32⟩ : BufTy).Contents (Elt Ideal))
  (x1 : (⟨S512x1024, .f32⟩ : BufTy).Contents (Elt Ideal))
  (x2 : (⟨S16384x512, .f32⟩ : BufTy).Contents (Elt Ideal))
  (x3 : (⟨S512x512, .f32⟩ : BufTy).Contents (Elt Ideal))
  (x4 : (⟨S3x1x6144, .f32⟩ : BufTy).Contents (Elt Ideal))
  (x5 : (⟨S16896x1024, .f32⟩ : BufTy).Contents (Elt Ideal))
  (x6 : (⟨S16896x1024, .f32⟩ : BufTy).Contents (Elt Ideal))
  (x7 : (⟨S16896x2048, .f32⟩ : BufTy).Contents (Elt Ideal))
  (x8 : (⟨S16896x1024, .f32⟩ : BufTy).Contents (Elt Ideal))
  (x9 : (⟨S2x16, .f32⟩ : BufTy).Contents (Elt Ideal))
  (x10 : (⟨S1024, .f32⟩ : BufTy).Contents (Elt Ideal))
  (x11 : (⟨S1536x1024, .f32⟩ : BufTy).Contents (Elt Ideal))

theorem zero_bits : (Ideal.ofBits .f32 0x00000000#32 : EReal) = 0 := by simp [Ideal.ofBits, Ideal.ieee]

/-! ## The scans' outputs and the skip -/

theorem heads_row (i : S16896x16x64.Idx) : (((i 0).val * 16 + (i 1).val) * 64 + (i 2).val) / 1024 = (i 0).val := by
  have h1 : (i 1).val < 16 := (i 1).isLt
  have h2 : (i 2).val < 64 := (i 2).isLt
  omega
theorem heads_col (i : S16896x16x64.Idx) : (((i 0).val * 16 + (i 1).val) * 64 + (i 2).val) % 1024 = (i 1).val * 64 + (i 2).val := by
  have h1 : (i 1).val < 16 := (i 1).isLt
  have h2 : (i 2).val < 64 := (i 2).isLt
  omega

theorem v1_at (i : S16896x16x64.Idx) : val_main_v1 (F := Ideal) x7 i = rd x7 (i 0).val ((i 1).val * 64 + (i 2).val) := by
  rw [val_main_v1_apply, val_main_v0_apply]
  exact rd_of x7 _ _ _ (heads_row i) (heads_col i)
theorem v2_at (i : S16896x16x64.Idx) : val_main_v2 (F := Ideal) x5 i = rd x5 (i 0).val ((i 1).val * 64 + (i 2).val) := by
  rw [val_main_v2_apply]
  exact rd_of x5 _ _ _ (heads_row i) (heads_col i)
theorem v10_at (i : S16896x16x64.Idx) : val_main_v10 (F := Ideal) x6 i = rd x6 (i 0).val ((i 1).val * 64 + (i 2).val) := by
  rw [val_main_v10_apply]
  exact rd_of x6 _ _ _ (heads_row i) (heads_col i)
theorem v7_at (i : S16896x16x64.Idx) : val_main_v7 (F := Ideal) x9 i = rd x9 0 (i 1).val := by
  rw [val_main_v7_apply, val_main_v6_apply, val_main_v5_apply, val_main_v4_apply, val_main_v3_apply]
  exact rd_of x9 _ _ _ rfl (Nat.mod_eq_of_lt (i 1).isLt)
theorem v16_at (i : S16896x16x64.Idx) : val_main_v16 (F := Ideal) x9 i = rd x9 1 (i 1).val := by
  rw [val_main_v16_apply, val_main_v15_apply, val_main_v14_apply, val_main_v13_apply, val_main_v12_apply]
  exact rd_of x9 _ _ _ rfl (Nat.mod_eq_of_lt (i 1).isLt)

theorem v18_at (i : S16896x16x64.Idx) :
    val_main_v18 (F := Ideal) x5 x6 x7 x9 i = rd x5 (i 0).val ((i 1).val * 64 + (i 2).val) + rd x9 0 (i 1).val * rd x7 (i 0).val ((i 1).val * 64 + (i 2).val)
      + rd x6 (i 0).val ((i 1).val * 64 + (i 2).val) + rd x9 1 (i 1).val * rd x7 (i 0).val ((i 1).val * 64 + (i 2).val) := by
  rw [val_main_v18_apply, val_main_v17_apply, val_main_v11_apply, val_main_v9_apply, val_main_v8_apply, v1_at, v2_at, v7_at, v10_at, v16_at]
  rfl

theorem v21_at (i : S16896x1024.Idx) :
    val_main_v21 (F := Ideal) x5 x6 x7 x8 x9 i = gated2 x5 x6 x7 x8 x9 (i 0).val (i 1).val := by
  have h1 : (i 1).val < 1024 := (i 1).isLt
  rw [val_main_v21_apply, val_main_v20_apply, val_main_v19_apply, v18_at, val_main_call0_v5_apply, val_main_call0_v4_apply,
    val_main_call0_v3_apply, val_main_call0_v2_apply, val_main_call0_v1_apply, val_main_call0_v0_apply]
  have e0 : (idx_main_v19 i 0).val = (i 0).val := by
    show ((i 0).val * 1024 + (i 1).val) / 1024 = _
    omega
  have e1 : (idx_main_v19 i 1).val = (i 1).val / 64 := by
    show ((i 0).val * 1024 + (i 1).val) / 64 % 16 = _
    omega
  have e2 : (i 1).val / 64 * 64 + (idx_main_v19 i 2).val = (i 1).val := by
    show (i 1).val / 64 * 64 + ((i 0).val * 1024 + (i 1).val) % 64 = _
    omega
  rw [e0, e1, e2]
  unfold gated2 silu
  rw [← rd_of x8 i _ _ rfl rfl]
  rfl

/-! ## The norm of each group -/

theorem v22_at (i : S16896x4x256.Idx) :
    val_main_v22 (F := Ideal) x5 x6 x7 x8 x9 i = gated2 x5 x6 x7 x8 x9 (i 0).val ((i 1).val * 256 + (i 2).val) := by
  have h1 : (i 1).val < 4 := (i 1).isLt
  have h2 : (i 2).val < 256 := (i 2).isLt
  rw [val_main_v22_apply, v21_at x5 x6 x7 x8 x9]
  refine congrArg₂ (fun R C => gated2 x5 x6 x7 x8 x9 R C) ?_ ?_
  · show (((i 0).val * 4 + (i 1).val) * 256 + (i 2).val) / 1024 = _
    omega
  · show (((i 0).val * 4 + (i 1).val) * 256 + (i 2).val) % 1024 = _
    omega
theorem v32_at (i : S16896x4x256.Idx) :
    val_main_v32 (F := Ideal) x5 x6 x7 x8 x9 i
      = Ideal.rsqrt (Ideal.div (∑ j : Fin 256, gated2 x5 x6 x7 x8 x9 (i 0).val ((i 1).val * 256 + j.val) * gated2 x5 x6 x7 x8 x9 (i 0).val ((i 1).val * 256 + j.val))
        (Ideal.ofBits .f32 0x43800000#32) + Ideal.ofBits .f32 0x358637BD#32) := by
  rw [val_main_v32_apply, val_main_v31_apply, val_main_v30_apply, val_main_v29_apply, val_main_v28_apply, val_main_v27_apply, val_main_v26_apply,
    val_main_v25_apply]
  show Ideal.rsqrt (Ideal.div (Ideal.ofBits .f32 0x00000000#32 + _) (Ideal.ofBits .f32 0x43800000#32) + Ideal.ofBits .f32 0x358637BD#32) = _
  rw [zero_bits, zero_add]
  refine congrArg (fun s => Ideal.rsqrt (Ideal.div s _ + _)) (Finset.sum_congr rfl fun k _ => ?_)
  rw [val_main_v24_apply]
  exact congrArg₂ (· * ·) (v22_at x5 x6 x7 x8 x9 _) (v22_at x5 x6 x7 x8 x9 _)
theorem v35_at (i : S16896x4x256.Idx) : val_main_v35 (F := Ideal) x10 i = gnat x10 ((i 1).val * 256 + (i 2).val) := by
  have h1 : (i 1).val < 4 := (i 1).isLt
  have h2 : (i 2).val < 256 := (i 2).isLt
  rw [val_main_v35_apply, val_main_v34_apply, val_main_v23_apply]
  unfold gnat
  rw [dif_pos (show (i 1).val * 256 + (i 2).val < 1024 by omega)]
  exact gn_of x10 _ _ rfl
theorem v38_at (i : S16896x1024.Idx) :
    val_main_v38 (F := Ideal) x5 x6 x7 x8 x9 x10 i = grpRow (gated2 x5 x6 x7 x8 x9 (i 0).val) (gnat x10) (i 1).val := by
  have h1 : (i 1).val < 1024 := (i 1).isLt
  rw [val_main_v38_apply, val_main_v36_apply, val_main_v33_apply, v22_at x5 x6 x7 x8 x9, v32_at x5 x6 x7 x8 x9, v35_at]
  have e0 : (idx_main_v38 i 0).val = (i 0).val := by
    show ((i 0).val * 1024 + (i 1).val) / 1024 = _
    omega
  have e1 : (idx_main_v38 i 1).val = (i 1).val / 256 := by
    show ((i 0).val * 1024 + (i 1).val) / 256 % 4 = _
    omega
  have e2 : (i 1).val / 256 * 256 + (idx_main_v38 i 2).val = (i 1).val := by
    show (i 1).val / 256 * 256 + ((i 0).val * 1024 + (i 1).val) % 256 = _
    omega
  rw [e0, e1, e2]
  rfl

/-! ## The projection -/

theorem v37_at (i : S16896x512.Idx) : val_main_v37 (F := Ideal) x2 x3 i = latCtx x2 x3 (i 0).val (i 1).val := by
  have h0 : (i 0).val < 16896 := (i 0).isLt
  unfold val_main_v37 latCtx
  by_cases h : (i 0).val < 16384
  · rw [if_pos h]
    exact (concatenate_pair_apply_left (s₁ := S16384x512) (s₂ := S512x512) (t := S16896x512) 0 _ _ concatenates_S16384x512_S512x512_S16896x512_d0 i rfl
      (ix2 ⟨(i 0).val, h⟩ (i 1)) (fun b => match b with | ⟨0, _⟩ => rfl | ⟨1, _⟩ => rfl)).trans (rd_of x2 _ _ _ rfl rfl)
  · rw [if_neg h]
    exact (concatenate_pair_apply_right (s₁ := S16384x512) (s₂ := S512x512) (t := S16896x512) 0 _ _ concatenates_S16384x512_S512x512_S16896x512_d0 i rfl rfl
      (ix2 ⟨(i 0).val - 16384, by omega⟩ (i 1)) (fun b => match b with | ⟨0, _⟩ => fun hb => absurd rfl hb | ⟨1, _⟩ => fun _ => rfl)
      (by show (i 0).val - 16384 + 16384 = (i 0).val; omega)).trans (rd_of x3 _ _ _ rfl rfl)
theorem v39_at (hu : ∀ y : S16896x2048.Idx, (y 1).val < 1024 → ∃ r : ℝ, x7 y = (r : EReal)) (i : S16896x1536.Idx) :
    val_main_v39 (F := Ideal) x2 x3 x5 x6 x7 x8 x9 x10 i = mixed x2 x3 x5 x6 x7 x8 x9 x10 (i 0).val (i 1).val := by
  have h1 : (i 1).val < 1536 := (i 1).isLt
  unfold val_main_v39 mixed
  by_cases h : (i 1).val < 512
  · rw [if_pos h]
    exact (concatenate_pair_apply_left (s₁ := S16896x512) (s₂ := S16896x1024) (t := S16896x1536) 1 _ _ concatenates_S16896x512_S16896x1024_S16896x1536_d1 i rfl
      (ix2 (i 0) ⟨(i 1).val, h⟩) (fun b => match b with | ⟨0, _⟩ => rfl | ⟨1, _⟩ => rfl)).trans (v37_at x2 x3 _)
  · rw [if_neg h]
    exact (concatenate_pair_apply_right (s₁ := S16896x512) (s₂ := S16896x1024) (t := S16896x1536) 1 _ _ concatenates_S16896x512_S16896x1024_S16896x1536_d1 i rfl rfl
      (ix2 (i 0) ⟨(i 1).val - 512, by omega⟩) (fun b => match b with | ⟨0, _⟩ => fun _ => rfl | ⟨1, _⟩ => fun hb => absurd rfl hb)
      (by show (i 1).val - 512 + 512 = (i 1).val; omega)).trans ((v38_at x5 x6 x7 x8 x9 x10 _).trans
        (grpRow_gated x5 x6 x7 x8 x9 _ hu _ _ (show (i 1).val - 512 < 1024 by omega)))
theorem v40_at (hu : ∀ y : S16896x2048.Idx, (y 1).val < 1024 → ∃ r : ℝ, x7 y = (r : EReal)) (i : S16896x1024.Idx) :
    val_main_v40 (F := Ideal) x2 x3 x5 x6 x7 x8 x9 x10 x11 i
      = ∑ k : Fin 1536, mixed x2 x3 x5 x6 x7 x8 x9 x10 (i 0).val k.val * rd x11 k.val (i 1).val := by
  rw [val_main_v40_apply]
  exact Finset.sum_congr rfl fun k _ => congrArg₂ (· * ·) (v39_at x2 x3 x5 x6 x7 x8 x9 x10 hu _) (rd_of x11 _ _ _ rfl rfl)

/-! ## The gated sum with the residual stream -/

theorem v50_at (hu : ∀ y : S16896x2048.Idx, (y 1).val < 1024 → ∃ r : ℝ, x7 y = (r : EReal)) (i : S2x8192x1024.Idx) :
    val_main_v50 (F := Ideal) x0 x2 x3 x4 x5 x6 x7 x8 x9 x10 x11 i
      = evenOut x0 x1 x2 x3 x4 x5 x6 x7 x8 x9 x10 x11 (8192 * (i 0).val + (i 1).val) (i 2).val := by
  have h0 : (i 0).val < 2 := (i 0).isLt
  have h1 : (i 1).val < 8192 := (i 1).isLt
  have h2 : (i 2).val < 1024 := (i 2).isLt
  have e0 : (((i 0).val * 8192 + (i 1).val) * 1024 + (i 2).val) / 1024 = 8192 * (i 0).val + (i 1).val := by omega
  have e1 : (((i 0).val * 8192 + (i 1).val) * 1024 + (i 2).val) % 1024 = (i 2).val := by omega
  rw [val_main_v50_apply, val_main_v49_apply, val_main_v48_apply, val_main_v47_apply, val_main_v46_apply, val_main_v43_apply, val_main_v42_apply,
    val_main_v41_apply, v40_at x2 x3 x5 x6 x7 x8 x9 x10 x11 hu]
  unfold evenOut latCtx
  rw [if_pos (show 8192 * (i 0).val + (i 1).val < 16384 by omega), show (8192 * (i 0).val + (i 1).val) / 8192 = (i 0).val by omega]
  refine congrArg₂ (fun p q : EReal => p + q) (rd_of x0 _ _ _ e0 e1) (congrArg₂ (fun p q : EReal => p * q) (md_of x4 _ _ _ rfl rfl) ?_)
  exact congrArg₂ (fun R C => ∑ k : Fin 1536, mixed x2 x3 x5 x6 x7 x8 x9 x10 R k.val * rd x11 k.val C) e0 e1
theorem v57_at (hu : ∀ y : S16896x2048.Idx, (y 1).val < 1024 → ∃ r : ℝ, x7 y = (r : EReal)) (i : S2x256x1024.Idx) :
    val_main_v57 (F := Ideal) x1 x2 x3 x4 x5 x6 x7 x8 x9 x10 x11 i
      = evenOut x0 x1 x2 x3 x4 x5 x6 x7 x8 x9 x10 x11 (16384 + (256 * (i 0).val + (i 1).val)) (i 2).val := by
  have h0 : (i 0).val < 2 := (i 0).isLt
  have h1 : (i 1).val < 256 := (i 1).isLt
  have h2 : (i 2).val < 1024 := (i 2).isLt
  have e0 : (((i 0).val * 256 + (i 1).val) * 1024 + (i 2).val) / 1024 = 256 * (i 0).val + (i 1).val := by omega
  have e1 : (((i 0).val * 256 + (i 1).val) * 1024 + (i 2).val) % 1024 = (i 2).val := by omega
  rw [val_main_v57_apply, val_main_v56_apply, val_main_v55_apply, val_main_v54_apply, val_main_v53_apply, val_main_v52_apply, val_main_v51_apply,
    val_main_v45_apply, val_main_v44_apply, val_main_v41_apply, v40_at x2 x3 x5 x6 x7 x8 x9 x10 x11 hu]
  unfold evenOut latCtx
  rw [if_neg (show ¬ 16384 + (256 * (i 0).val + (i 1).val) < 16384 by omega), Nat.add_sub_cancel_left,
    show (16384 + (256 * (i 0).val + (i 1).val)) / 8192 = 2 by omega]
  refine congrArg₂ (fun p q : EReal => p + q) (rd_of x1 _ _ _ e0 e1) (congrArg₂ (fun p q : EReal => p * q) (md_of x4 _ _ _ rfl ?_) ?_)
  · show 2048 + (0 * 1024 + (i 2).val) % 1024 = 2048 + (i 2).val
    omega
  · exact congrArg₂ (fun R C => ∑ k : Fin 1536, mixed x2 x3 x5 x6 x7 x8 x9 x10 R k.val * rd x11 k.val C) (congrArg (16384 + ·) e0) e1

theorem v58_at (hu : ∀ y : S16896x2048.Idx, (y 1).val < 1024 → ∃ r : ℝ, x7 y = (r : EReal)) (i : S16384x1024.Idx) :
    val_main_v58 (F := Ideal) x0 x2 x3 x4 x5 x6 x7 x8 x9 x10 x11 i = evenOut x0 x1 x2 x3 x4 x5 x6 x7 x8 x9 x10 x11 (i 0).val (i 1).val := by
  have h0 : (i 0).val < 16384 := (i 0).isLt
  have h1 : (i 1).val < 1024 := (i 1).isLt
  rw [val_main_v58_apply, v50_at x0 x1 x2 x3 x4 x5 x6 x7 x8 x9 x10 x11 hu]
  refine congrArg₂ (fun R C => evenOut x0 x1 x2 x3 x4 x5 x6 x7 x8 x9 x10 x11 R C) ?_ ?_
  · show 8192 * (((i 0).val * 1024 + (i 1).val) / 8388608) + ((i 0).val * 1024 + (i 1).val) / 1024 % 8192 = _
    omega
  · show ((i 0).val * 1024 + (i 1).val) % 1024 = _
    omega
theorem v59_at (hu : ∀ y : S16896x2048.Idx, (y 1).val < 1024 → ∃ r : ℝ, x7 y = (r : EReal)) (i : S512x1024.Idx) :
    val_main_v59 (F := Ideal) x1 x2 x3 x4 x5 x6 x7 x8 x9 x10 x11 i = evenOut x0 x1 x2 x3 x4 x5 x6 x7 x8 x9 x10 x11 (16384 + (i 0).val) (i 1).val := by
  have h0 : (i 0).val < 512 := (i 0).isLt
  have h1 : (i 1).val < 1024 := (i 1).isLt
  rw [val_main_v59_apply, v57_at x0 x1 x2 x3 x4 x5 x6 x7 x8 x9 x10 x11 hu]
  refine congrArg₂ (fun R C => evenOut x0 x1 x2 x3 x4 x5 x6 x7 x8 x9 x10 x11 R C) ?_ ?_
  · show 16384 + (256 * (((i 0).val * 1024 + (i 1).val) / 262144) + ((i 0).val * 1024 + (i 1).val) / 1024 % 256) = _
    omega
  · show ((i 0).val * 1024 + (i 1).val) % 1024 = _
    omega
theorem v60_at (hu : ∀ y : S16896x2048.Idx, (y 1).val < 1024 → ∃ r : ℝ, x7 y = (r : EReal)) (i : S16896x1024.Idx) :
    val_main_v60 (F := Ideal) x0 x1 x2 x3 x4 x5 x6 x7 x8 x9 x10 x11 i = evenOut x0 x1 x2 x3 x4 x5 x6 x7 x8 x9 x10 x11 (i 0).val (i 1).val := by
  have h0 : (i 0).val < 16896 := (i 0).isLt
  unfold val_main_v60
  by_cases h : (i 0).val < 16384
  · exact (concatenate_pair_apply_left (s₁ := S16384x1024) (s₂ := S512x1024) (t := S16896x1024) 0 _ _ concatenates_S16384x1024_S512x1024_S16896x1024_d0 i rfl
      (ix2 ⟨(i 0).val, h⟩ (i 1)) (fun b => match b with | ⟨0, _⟩ => rfl | ⟨1, _⟩ => rfl)).trans
      (v58_at x0 x1 x2 x3 x4 x5 x6 x7 x8 x9 x10 x11 hu _)
  · refine (concatenate_pair_apply_right (s₁ := S16384x1024) (s₂ := S512x1024) (t := S16896x1024) 0 _ _ concatenates_S16384x1024_S512x1024_S16896x1024_d0 i rfl rfl
      (ix2 ⟨(i 0).val - 16384, by omega⟩ (i 1)) (fun b => match b with | ⟨0, _⟩ => fun hb => absurd rfl hb | ⟨1, _⟩ => fun _ => rfl)
      (by show (i 0).val - 16384 + 16384 = (i 0).val; omega)).trans ((v59_at x0 x1 x2 x3 x4 x5 x6 x7 x8 x9 x10 x11 hu _).trans ?_)
    exact congrArg (fun R => evenOut x0 x1 x2 x3 x4 x5 x6 x7 x8 x9 x10 x11 R (i 1).val) (show 16384 + ((i 0).val - 16384) = (i 0).val by omega)

end Cert.Reference4Ideal.Att

end
-- ==== Proof.PreSkip.lean ====
module

public import proofs.«01_k».proof.Pre_finite_skip
public import proofs.«01_k».proof.Proof.Pre

@[expose] public section

noncomputable section

namespace Cert.Pre_finite_skip.Att

open Cert.Pre_finite_skip
open Cert.Pre_finite_scores.Att (real_of_abs)
open Idealize.ShloMosaic

/-! # The second precondition read back: the skip's input is real -/

/-- The side conditions of the precondition's operations. -/
theorem facts : Cert.Pre_finite_skip.Facts where
  slices_S16896x2048_S16896x1024_0_0 := by decide
  bcast_S_S16896x1024 := by decide
  reducesTo_S16896x1024_S_d0_1 := by decide
  h_S_ := by decide

instance : Subsingleton S_.Idx := ⟨fun a b => funext fun x => x.elim0⟩

attribute [local instance] facts

theorem reals (x0 : FVec Ideal S16384x1024 .f32) (x1 : FVec Ideal S512x1024 .f32) (x2 : FVec Ideal S16384x512 .f32) (x3 : FVec Ideal S512x512 .f32) (x4 : FVec Ideal S3x1x6144 .f32) (x5 : FVec Ideal S16896x1024 .f32) (x6 : FVec Ideal S16896x1024 .f32) (x7 : FVec Ideal S16896x2048 .f32) (x8 : FVec Ideal S16896x1024 .f32) (x9 : FVec Ideal S2x16 .f32) (x10 : FVec Ideal S1024 .f32) (x11 : FVec Ideal S1536x1024 .f32)
    (h : fn (F := Ideal) x0 x1 x2 x3 x4 x5 x6 x7 x8 x9 x10 x11 = fun _ => 1#1) :
    ∀ y : S16896x2048.Idx, (y 1).val < 1024 → ∃ r : ℝ, x7 y = (r : EReal) := by
  have h0 := congrFun h (Shape.Idx.first Facts.h_S_)
  dsimp only [fn] at h0
  intro y hy
  obtain ⟨r, hr⟩ := real_of_abs (Host.reduce_andi_all _ _ _ _ _ h0 (ix2 ⟨(y 0).val, (y 0).isLt⟩ ⟨(y 1).val, hy⟩))
  refine ⟨r, Eq.trans (Eq.symm ?_) hr⟩
  exact extractStridedSlice_apply ![0, 0] x7 Facts.slices_S16896x2048_S16896x1024_0_0 _ y fun a => match a with
    | ⟨0, _⟩ => (Nat.zero_add _).symm
    | ⟨1, _⟩ => (Nat.zero_add _).symm

end Cert.Pre_finite_skip.Att

end
-- ==== Proof.lean ====
/- The proof of the certificate's claim: the frames of the attention and of the three projections, and what they compute. -/
module

public import proofs.«01_k».proof.Defs
public import proofs.«01_k».proof.Proof.KernelFrame
public import proofs.«01_k».proof.Proof.KernelValue
public import proofs.«01_k».proof.Proof.RefValue
public import proofs.«01_k».proof.Proof.Pre
public import proofs.«01_k».proof.Proof.Gen.ReferenceIdeal.Run
public import proofs.«01_k».proof.Proof.Gen.Kernel2.Frame
public import proofs.«01_k».proof.Proof.Gen.Kernel3.Frame
public import proofs.«01_k».proof.Proof.InValue
public import proofs.«01_k».proof.Proof.InRef
public import proofs.«01_k».proof.Proof.OutValue
public import proofs.«01_k».proof.Proof.OutRef
public import proofs.«01_k».proof.Proof.Gen.Kernel4.Frame
public import proofs.«01_k».proof.Proof.Gen.Reference4Ideal.Run
public import proofs.«01_k».proof.Proof.MixValue
public import proofs.«01_k».proof.Proof.MixRef
public import proofs.«01_k».proof.Proof.PreSkip
public import Idealize.ShloMosaic.Lib.Quiescent

@[expose] public section

noncomputable section

namespace Cert.Proof

open Idealize.ShloMosaic Idealize.ShloMosaic.TcCoe Idealize.SL.Sem

/-- The reference runs, its arguments end unchanged and every counter is zero: it has no semaphore. -/
theorem reference_quiescent : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- The kernel and the reference leave the same array: the attention of the operands. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Att.facts) := by
  intro m ρ m' ρ' hpre hagree
  have hr := fun c => Cert.Pre_finite_scores.Att.reals _ _ _ (hpre c)
  refine ⟨fun c => Cert.KernelIdeal.Att.attnArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ⟨?_, ?_⟩) (Cert.KernelIdeal.Att.run_main (F := Ideal) m ρ)
    · exact ((h.1 c).1 5).trans (Cert.KernelIdeal.Att.out_eq m c (hr c).1 (hr c).2)
    · exact ⟨((h.1 c).1 0).trans ((Cert.KernelIdeal.Att.dats m 0 c).arrAt_in 0 rfl _),
        ((h.1 c).1 2).trans ((Cert.KernelIdeal.Att.dats m 0 c).arrAt_in 2 rfl _),
        ((h.1 c).1 4).trans ((Cert.KernelIdeal.Att.dats m 0 c).arrAt_in 4 rfl _)⟩
  · refine (θ_run _ _ _).mono (fun r h c => ⟨?_, (h c).2⟩) (Cert.ReferenceIdeal.Value.run (F := Ideal) m' ρ')
    refine (h c).1.trans ((Cert.ReferenceIdeal.Read.val_main_v34_eq m' c).trans (funext fun i => ?_))
    obtain ⟨h0, h1, h2⟩ := hagree c
    rw [h0, h1, h2]
    exact Cert.ReferenceIdeal.Att.ref_eq _ (hr c).1 (hr c).2 i

/-! ## The input projection -/

/-- Its reference runs, its arguments end unchanged and every counter is zero. -/
theorem reference2_quiescent : Cert.quiescent_Reference2Ideal (hReference2Ideal := Cert.Reference2Ideal.Gen.facts) := fun m ρ _ =>
  (θ_run _ _ _).mono (fun r h => ⟨fun c => (h c).2.2.2.2, sem_eq_zero_of_no_sems (by decide) r.2⟩)
    (Cert.Reference2Ideal.Value.run (F := Ideal) m ρ)

/-- The kernel and the reference leave the same four arrays: the columns of the projection. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, _, _, (θ_run _ _ _).mono (fun r h c => ⟨(h c).1.trans (Cert.Kernel2Ideal.Att.out8_eq m c),
    (h c).2.1.trans (Cert.Kernel2Ideal.Att.out9_eq m c), (h c).2.2.1.trans (Cert.Kernel2Ideal.Att.out10_eq m c),
    (h c).2.2.2.1.trans (Cert.Kernel2Ideal.Att.out11_eq m c), (h c).2.2.2.2⟩) (Cert.Kernel2Ideal.Value.run_blocks (F := Ideal) m ρ), ?_⟩
  refine (θ_run _ _ _).mono (fun r h c => ⟨?_, ?_, ?_, ?_, (h c).2.2.2.2⟩) (Cert.Reference2Ideal.Value.run (F := Ideal) m' ρ')
  · refine (h c).1.trans ((Cert.Reference2Ideal.Read.val_main_v54_eq _ _ _ _ _).trans (funext fun y => ?_))
    obtain ⟨h0, h1, h2, h3, h4⟩ := hagree c
    rw [h0, h1, h2, h3, h4]
    exact Cert.Reference2Ideal.Att.v54_at _ _ _ _ _ y
  · refine (h c).2.1.trans ((Cert.Reference2Ideal.Read.val_main_v55_eq _ _ _ _ _).trans (funext fun y => ?_))
    obtain ⟨h0, h1, h2, h3, h4⟩ := hagree c
    rw [h0, h1, h2, h3, h4]
    exact Cert.Reference2Ideal.Att.v55_at _ _ _ _ _ y
  · refine (h c).2.2.1.trans ((Cert.Reference2Ideal.Read.val_main_v56_eq _ _ _ _ _).trans (funext fun y => ?_))
    obtain ⟨h0, h1, h2, h3, h4⟩ := hagree c
    rw [h0, h1, h2, h3, h4]
    exact Cert.Reference2Ideal.Att.v56_at _ _ _ _ _ y
  · refine (h c).2.2.2.1.trans ((Cert.Reference2Ideal.Read.val_main_v58_eq _ _ _ _ _).trans (funext fun y => ?_))
    obtain ⟨h0, h1, h2, h3, h4⟩ := hagree c
    rw [h0, h1, h2, h3, h4]
    exact Cert.Reference2Ideal.Att.v58_at _ _ _ _ _ y

/-! ## The attention's output projection -/

/-- Its reference runs, its arguments end unchanged and every counter is zero. -/
theorem reference3_quiescent : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The kernel and the reference leave the same array: the gated projection added to the residual stream. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, (θ_run _ _ _).mono (fun r h c => ⟨(h c).1.trans (Cert.Kernel3Ideal.Att.out_eq m c), (h c).2⟩)
    (Cert.Kernel3Ideal.Value.run_blocks (F := Ideal) m ρ), ?_⟩
  refine (θ_run _ _ _).mono (fun r h c => ⟨?_, (h c).2⟩) (Cert.Reference3Ideal.Value.run (F := Ideal) m' ρ')
  refine (h c).1.trans ((Cert.Reference3Ideal.Read.val_main_v9_eq _ _ _ _).trans (funext fun y => ?_))
  obtain ⟨h0, h1, h2, h3⟩ := hagree c
  rw [h0, h1, h2, h3]
  exact Cert.Reference3Ideal.Att.ref_eq _ _ _ _ y

/-! ## The even layer's output projection -/

/-- Its reference runs, its arguments end unchanged and every counter is zero. -/
theorem reference4_quiescent : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The kernel and the reference leave the same array, where the skip's input is real. -/
theorem algebraic4 : Cert.algebraic_Kernel4Ideal_Reference4Ideal_pre_finite_skip (hKernel4Ideal := Cert.Kernel4Ideal.Gen.facts)
    (hReference4Ideal := Cert.Reference4Ideal.Gen.facts) (hPre_finite_skip := Cert.Pre_finite_skip.Att.facts) := by
  intro m ρ m' ρ' hpre hagree
  have hr := fun c => Cert.Pre_finite_skip.Att.reals _ _ _ _ _ _ _ _ _ _ _ _ (hpre c)
  refine ⟨_, (θ_run _ _ _).mono (fun r h c => ⟨(h c).1.trans (Cert.Kernel4Ideal.Att.out13_eq m c), (h c).2⟩)
    (Cert.Kernel4Ideal.Value.run_blocks (F := Ideal) m ρ), ?_⟩
  refine (θ_run _ _ _).mono (fun r h c => ⟨?_, (h c).2⟩) (Cert.Reference4Ideal.Value.run (F := Ideal) m' ρ')
  refine (h c).1.trans ((Cert.Reference4Ideal.Read.val_main_v60_eq m' c).trans (funext fun y => ?_))
  obtain ⟨h0, h1, h2, h3, h4, h5, h6, h7, h8, h9, h10, h11⟩ := hagree c
  rw [h0, h1, h2, h3, h4, h5, h6, h7, h8, h9, h10, h11]
  exact Cert.Reference4Ideal.Att.v60_at _ _ _ _ _ _ _ _ _ _ _ _ (hr c) y

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_scores.Att.facts, Cert.Pre_finite_skip.Att.facts,
    fun m ρ _ => Cert.Kernel.Att.quiescent m ρ, fun m ρ _ => Cert.KernelIdeal.Att.quiescent m ρ, fun m ρ _ => Cert.KernelIdeal.Att.quiescent m ρ,
    reference_quiescent, fun m ρ _ => reference_quiescent m ρ trivial,
    fun m ρ _ => Cert.Kernel2.Gen.frame m ρ, fun m ρ _ => Cert.Kernel2Ideal.Gen.frame m ρ, reference2_quiescent,
    fun m ρ _ => Cert.Kernel3.Gen.frame m ρ, fun m ρ _ => Cert.Kernel3Ideal.Gen.frame m ρ, reference3_quiescent,
    fun m ρ _ => Cert.Kernel4.Gen.frame m ρ, fun m ρ _ => Cert.Kernel4Ideal.Gen.frame m ρ, fun m ρ _ => Cert.Kernel4Ideal.Gen.frame m ρ,
    reference4_quiescent, fun m ρ _ => reference4_quiescent m ρ trivial,
    trivial, algebraic, trivial, algebraic2, trivial, algebraic3, trivial, algebraic4⟩

end Cert.Proof

end
